-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x2048 : Shape := ⟨2, ![2048, 2048]⟩
abbrev S2048x128 : Shape := ⟨2, ![2048, 128]⟩
abbrev S2x2048x256 : Shape := ⟨3, ![2, 2048, 256]⟩
abbrev S16x128x128 : Shape := ⟨3, ![16, 128, 128]⟩
abbrev S2 : Shape := ⟨1, ![2]⟩
abbrev S16 : Shape := ⟨1, ![16]⟩
abbrev S_ : Shape := ⟨0, ![]⟩
abbrev S1 : Shape := ⟨1, ![1]⟩
abbrev S1x2048x256 : Shape := ⟨3, ![1, 2048, 256]⟩
abbrev S2048x256 : Shape := ⟨2, ![2048, 256]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S2048x128, .bf16⟩
  | .local _ .vmem, ⟨0, _⟩ => ⟨S128x2048, .f32⟩
  | .local _ .vmem, ⟨1, _⟩ => ⟨S2048x128, .bf16⟩
  | .local _ .vmem, ⟨2, _⟩ => ⟨S2x2048x256, .f32⟩
  | .local _ .vmem, ⟨3, _⟩ => ⟨S16x128x128, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v6 : BitVec 32 := Scalar.addi v2 c1_i32_0
  let c16_i32_1 : BitVec 32 := 16#32
  let v7 : BitVec 32 := Scalar.remsi v6 c16_i32_1
  let c1_i32_3 : BitVec 32 := 1#32
  let v8 : BitVec 32 := Scalar.muli v7 c1_i32_3
  let v9 : BitVec 32 := Scalar.addi c0_i32 v8
  v9.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_4 : BitVec 32 := 2#32
  let v10 : BitVec 32 := Scalar.addi v2 c2_i32_4
  let c16_i32_5 : BitVec 32 := 16#32
  let v11 : BitVec 32 := Scalar.remsi v10 c16_i32_5
  let c1_i32_7 : BitVec 32 := 1#32
  let v12 : BitVec 32 := Scalar.muli v11 c1_i32_7
  let v13 : BitVec 32 := Scalar.addi c0_i32_8 v12
  v13.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.addi v2 c3_i32
  let c16_i32_9 : BitVec 32 := 16#32
  let v15 : BitVec 32 := Scalar.remsi v14 c16_i32_9
  let c1_i32_11 : BitVec 32 := 1#32
  let v16 : BitVec 32 := Scalar.muli v15 c1_i32_11
  let v17 : BitVec 32 := Scalar.addi c0_i32_12 v16
  v17.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v18 : BitVec 32 := Scalar.addi v2 c4_i32
  let c16_i32_13 : BitVec 32 := 16#32
  let v19 : BitVec 32 := Scalar.remsi v18 c16_i32_13
  let c1_i32_15 : BitVec 32 := 1#32
  let v20 : BitVec 32 := Scalar.muli v19 c1_i32_15
  let v21 : BitVec 32 := Scalar.addi c0_i32_16 v20
  v21.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v22 : BitVec 32 := Scalar.addi v2 c5_i32
  let c16_i32_17 : BitVec 32 := 16#32
  let v23 : BitVec 32 := Scalar.remsi v22 c16_i32_17
  let c1_i32_19 : BitVec 32 := 1#32
  let v24 : BitVec 32 := Scalar.muli v23 c1_i32_19
  let v25 : BitVec 32 := Scalar.addi c0_i32_20 v24
  v25.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v26 : BitVec 32 := Scalar.addi v2 c6_i32
  let c16_i32_21 : BitVec 32 := 16#32
  let v27 : BitVec 32 := Scalar.remsi v26 c16_i32_21
  let c1_i32_23 : BitVec 32 := 1#32
  let v28 : BitVec 32 := Scalar.muli v27 c1_i32_23
  let v29 : BitVec 32 := Scalar.addi c0_i32_24 v28
  v29.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v30 : BitVec 32 := Scalar.addi v2 c7_i32
  let c16_i32_25 : BitVec 32 := 16#32
  let v31 : BitVec 32 := Scalar.remsi v30 c16_i32_25
  let c1_i32_27 : BitVec 32 := 1#32
  let v32 : BitVec 32 := Scalar.muli v31 c1_i32_27
  let v33 : BitVec 32 := Scalar.addi c0_i32_28 v32
  v33.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v34 : BitVec 32 := Scalar.addi v2 c8_i32
  let c16_i32_29 : BitVec 32 := 16#32
  let v35 : BitVec 32 := Scalar.remsi v34 c16_i32_29
  let c1_i32_31 : BitVec 32 := 1#32
  let v36 : BitVec 32 := Scalar.muli v35 c1_i32_31
  let v37 : BitVec 32 := Scalar.addi c0_i32_32 v36
  v37.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v38 : BitVec 32 := Scalar.addi v2 c9_i32
  let c16_i32_33 : BitVec 32 := 16#32
  let v39 : BitVec 32 := Scalar.remsi v38 c16_i32_33
  let c1_i32_35 : BitVec 32 := 1#32
  let v40 : BitVec 32 := Scalar.muli v39 c1_i32_35
  let v41 : BitVec 32 := Scalar.addi c0_i32_36 v40
  v41.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v42 : BitVec 32 := Scalar.addi v2 c10_i32
  let c16_i32_37 : BitVec 32 := 16#32
  let v43 : BitVec 32 := Scalar.remsi v42 c16_i32_37
  let c1_i32_39 : BitVec 32 := 1#32
  let v44 : BitVec 32 := Scalar.muli v43 c1_i32_39
  let v45 : BitVec 32 := Scalar.addi c0_i32_40 v44
  v45.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v46 : BitVec 32 := Scalar.addi v2 c11_i32
  let c16_i32_41 : BitVec 32 := 16#32
  let v47 : BitVec 32 := Scalar.remsi v46 c16_i32_41
  let c1_i32_43 : BitVec 32 := 1#32
  let v48 : BitVec 32 := Scalar.muli v47 c1_i32_43
  let v49 : BitVec 32 := Scalar.addi c0_i32_44 v48
  v49.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v50 : BitVec 32 := Scalar.addi v2 c12_i32
  let c16_i32_45 : BitVec 32 := 16#32
  let v51 : BitVec 32 := Scalar.remsi v50 c16_i32_45
  let c1_i32_47 : BitVec 32 := 1#32
  let v52 : BitVec 32 := Scalar.muli v51 c1_i32_47
  let v53 : BitVec 32 := Scalar.addi c0_i32_48 v52
  v53.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v54 : BitVec 32 := Scalar.addi v2 c13_i32
  let c16_i32_49 : BitVec 32 := 16#32
  let v55 : BitVec 32 := Scalar.remsi v54 c16_i32_49
  let c1_i32_51 : BitVec 32 := 1#32
  let v56 : BitVec 32 := Scalar.muli v55 c1_i32_51
  let v57 : BitVec 32 := Scalar.addi c0_i32_52 v56
  v57.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v58 : BitVec 32 := Scalar.addi v2 c14_i32
  let c16_i32_53 : BitVec 32 := 16#32
  let v59 : BitVec 32 := Scalar.remsi v58 c16_i32_53
  let c1_i32_55 : BitVec 32 := 1#32
  let v60 : BitVec 32 := Scalar.muli v59 c1_i32_55
  let v61 : BitVec 32 := Scalar.addi c0_i32_56 v60
  v61.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v62 : BitVec 32 := Scalar.addi v2 c15_i32
  let c16_i32_57 : BitVec 32 := 16#32
  let v63 : BitVec 32 := Scalar.remsi v62 c16_i32_57
  let c1_i32_59 : BitVec 32 := 1#32
  let v64 : BitVec 32 := Scalar.muli v63 c1_i32_59
  let v65 : BitVec 32 := Scalar.addi c0_i32_60 v64
  v65.toNat
def k0_off1 (d0 : Dev nD) (c0_i32_63 : BitVec 32) : Fin 2 → Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let v69 : BitVec 32 := Scalar.addi v3 c0_i32_63
  let c8_i32_64 : BitVec 32 := 8#32
  let v70 : BitVec 32 := Scalar.remsi v69 c8_i32_64
  let c256_i32 : BitVec 32 := 256#32
  let v71 : BitVec 32 := Scalar.muli v70 c256_i32
  ![0, v71.toNat]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_95 : BitVec 32 := 2#32
  let v113 : BitVec 32 := Scalar.muli v78 c2_i32_95
  let c0_i32_96 : BitVec 32 := 0#32
  let v114 : BitVec 32 := Scalar.addi v113 c0_i32_96
  let v119 : BitVec 1 := Scalar.cmpi .eq v114 v2
  let v120 : BitVec 32 := Scalar.extui v119
  let c0_i32_100 : BitVec 32 := 0#32
  let v121 : BitVec 1 := Scalar.cmpi .ne v120 c0_i32_100
  v121

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_95 : BitVec 32 := 2#32
  let v113 : BitVec 32 := Scalar.muli v78 c2_i32_95
  let c0_i32_96 : BitVec 32 := 0#32
  let v114 : BitVec 32 := Scalar.addi v113 c0_i32_96
  let v119 : BitVec 1 := Scalar.cmpi .eq v114 v2
  let true_101 : BitVec 1 := 1#1
  let v122 : BitVec 1 := Scalar.xori v119 true_101
  let v123 : BitVec 32 := Scalar.extui v122
  let c0_i32_104 : BitVec 32 := 0#32
  let v124 : BitVec 1 := Scalar.cmpi .ne v123 c0_i32_104
  v124

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev16 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_95 : BitVec 32 := 2#32
  let v113 : BitVec 32 := Scalar.muli v78 c2_i32_95
  let c0_i32_96 : BitVec 32 := 0#32
  let v114 : BitVec 32 := Scalar.addi v113 c0_i32_96
  let c1_i32_558 : BitVec 32 := 1#32
  let v645 : BitVec 32 := Scalar.muli v114 c1_i32_558
  let v646 : BitVec 32 := Scalar.addi c0_i32_559 v645
  v646.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_105 : BitVec 32 := 2#32
  let v125 : BitVec 32 := Scalar.muli v78 c2_i32_105
  let c1_i32_106 : BitVec 32 := 1#32
  let v126 : BitVec 32 := Scalar.addi v125 c1_i32_106
  let v131 : BitVec 1 := Scalar.cmpi .eq v126 v2
  let v132 : BitVec 32 := Scalar.extui v131
  let c0_i32_109 : BitVec 32 := 0#32
  let v133 : BitVec 1 := Scalar.cmpi .ne v132 c0_i32_109
  v133

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_105 : BitVec 32 := 2#32
  let v125 : BitVec 32 := Scalar.muli v78 c2_i32_105
  let c1_i32_106 : BitVec 32 := 1#32
  let v126 : BitVec 32 := Scalar.addi v125 c1_i32_106
  let v131 : BitVec 1 := Scalar.cmpi .eq v126 v2
  let true_110 : BitVec 1 := 1#1
  let v134 : BitVec 1 := Scalar.xori v131 true_110
  let v135 : BitVec 32 := Scalar.extui v134
  let c0_i32_113 : BitVec 32 := 0#32
  let v136 : BitVec 1 := Scalar.cmpi .ne v135 c0_i32_113
  v136

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev17 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_105 : BitVec 32 := 2#32
  let v125 : BitVec 32 := Scalar.muli v78 c2_i32_105
  let c1_i32_106 : BitVec 32 := 1#32
  let v126 : BitVec 32 := Scalar.addi v125 c1_i32_106
  let c1_i32_558 : BitVec 32 := 1#32
  let v645 : BitVec 32 := Scalar.muli v126 c1_i32_558
  let v646 : BitVec 32 := Scalar.addi c0_i32_559 v645
  v646.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_140 : BitVec 32 := 2#32
  let v173 : BitVec 32 := Scalar.muli v138 c2_i32_140
  let c0_i32_141 : BitVec 32 := 0#32
  let v174 : BitVec 32 := Scalar.addi v173 c0_i32_141
  let v179 : BitVec 1 := Scalar.cmpi .eq v174 v2
  let v180 : BitVec 32 := Scalar.extui v179
  let c0_i32_144 : BitVec 32 := 0#32
  let v181 : BitVec 1 := Scalar.cmpi .ne v180 c0_i32_144
  v181

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_140 : BitVec 32 := 2#32
  let v173 : BitVec 32 := Scalar.muli v138 c2_i32_140
  let c0_i32_141 : BitVec 32 := 0#32
  let v174 : BitVec 32 := Scalar.addi v173 c0_i32_141
  let v179 : BitVec 1 := Scalar.cmpi .eq v174 v2
  let true_145 : BitVec 1 := 1#1
  let v182 : BitVec 1 := Scalar.xori v179 true_145
  let v183 : BitVec 32 := Scalar.extui v182
  let c0_i32_148 : BitVec 32 := 0#32
  let v184 : BitVec 1 := Scalar.cmpi .ne v183 c0_i32_148
  v184

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev18 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_140 : BitVec 32 := 2#32
  let v173 : BitVec 32 := Scalar.muli v138 c2_i32_140
  let c0_i32_141 : BitVec 32 := 0#32
  let v174 : BitVec 32 := Scalar.addi v173 c0_i32_141
  let c1_i32_558 : BitVec 32 := 1#32
  let v645 : BitVec 32 := Scalar.muli v174 c1_i32_558
  let v646 : BitVec 32 := Scalar.addi c0_i32_559 v645
  v646.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_149 : BitVec 32 := 2#32
  let v185 : BitVec 32 := Scalar.muli v138 c2_i32_149
  let c1_i32_150 : BitVec 32 := 1#32
  let v186 : BitVec 32 := Scalar.addi v185 c1_i32_150
  let v191 : BitVec 1 := Scalar.cmpi .eq v186 v2
  let v192 : BitVec 32 := Scalar.extui v191
  let c0_i32_153 : BitVec 32 := 0#32
  let v193 : BitVec 1 := Scalar.cmpi .ne v192 c0_i32_153
  v193

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_149 : BitVec 32 := 2#32
  let v185 : BitVec 32 := Scalar.muli v138 c2_i32_149
  let c1_i32_150 : BitVec 32 := 1#32
  let v186 : BitVec 32 := Scalar.addi v185 c1_i32_150
  let v191 : BitVec 1 := Scalar.cmpi .eq v186 v2
  let true_154 : BitVec 1 := 1#1
  let v194 : BitVec 1 := Scalar.xori v191 true_154
  let v195 : BitVec 32 := Scalar.extui v194
  let c0_i32_157 : BitVec 32 := 0#32
  let v196 : BitVec 1 := Scalar.cmpi .ne v195 c0_i32_157
  v196

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev19 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_149 : BitVec 32 := 2#32
  let v185 : BitVec 32 := Scalar.muli v138 c2_i32_149
  let c1_i32_150 : BitVec 32 := 1#32
  let v186 : BitVec 32 := Scalar.addi v185 c1_i32_150
  let c1_i32_558 : BitVec 32 := 1#32
  let v645 : BitVec 32 := Scalar.muli v186 c1_i32_558
  let v646 : BitVec 32 := Scalar.addi c0_i32_559 v645
  v646.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_184 : BitVec 32 := 2#32
  let v233 : BitVec 32 := Scalar.muli v198 c2_i32_184
  let c0_i32_185 : BitVec 32 := 0#32
  let v234 : BitVec 32 := Scalar.addi v233 c0_i32_185
  let v239 : BitVec 1 := Scalar.cmpi .eq v234 v2
  let v240 : BitVec 32 := Scalar.extui v239
  let c0_i32_188 : BitVec 32 := 0#32
  let v241 : BitVec 1 := Scalar.cmpi .ne v240 c0_i32_188
  v241

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_184 : BitVec 32 := 2#32
  let v233 : BitVec 32 := Scalar.muli v198 c2_i32_184
  let c0_i32_185 : BitVec 32 := 0#32
  let v234 : BitVec 32 := Scalar.addi v233 c0_i32_185
  let v239 : BitVec 1 := Scalar.cmpi .eq v234 v2
  let true_189 : BitVec 1 := 1#1
  let v242 : BitVec 1 := Scalar.xori v239 true_189
  let v243 : BitVec 32 := Scalar.extui v242
  let c0_i32_192 : BitVec 32 := 0#32
  let v244 : BitVec 1 := Scalar.cmpi .ne v243 c0_i32_192
  v244

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev20 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_184 : BitVec 32 := 2#32
  let v233 : BitVec 32 := Scalar.muli v198 c2_i32_184
  let c0_i32_185 : BitVec 32 := 0#32
  let v234 : BitVec 32 := Scalar.addi v233 c0_i32_185
  let c1_i32_558 : BitVec 32 := 1#32
  let v645 : BitVec 32 := Scalar.muli v234 c1_i32_558
  let v646 : BitVec 32 := Scalar.addi c0_i32_559 v645
  v646.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_193 : BitVec 32 := 2#32
  let v245 : BitVec 32 := Scalar.muli v198 c2_i32_193
  let c1_i32_194 : BitVec 32 := 1#32
  let v246 : BitVec 32 := Scalar.addi v245 c1_i32_194
  let v251 : BitVec 1 := Scalar.cmpi .eq v246 v2
  let v252 : BitVec 32 := Scalar.extui v251
  let c0_i32_197 : BitVec 32 := 0#32
  let v253 : BitVec 1 := Scalar.cmpi .ne v252 c0_i32_197
  v253

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_193 : BitVec 32 := 2#32
  let v245 : BitVec 32 := Scalar.muli v198 c2_i32_193
  let c1_i32_194 : BitVec 32 := 1#32
  let v246 : BitVec 32 := Scalar.addi v245 c1_i32_194
  let v251 : BitVec 1 := Scalar.cmpi .eq v246 v2
  let true_198 : BitVec 1 := 1#1
  let v254 : BitVec 1 := Scalar.xori v251 true_198
  let v255 : BitVec 32 := Scalar.extui v254
  let c0_i32_201 : BitVec 32 := 0#32
  let v256 : BitVec 1 := Scalar.cmpi .ne v255 c0_i32_201
  v256

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev21 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_193 : BitVec 32 := 2#32
  let v245 : BitVec 32 := Scalar.muli v198 c2_i32_193
  let c1_i32_194 : BitVec 32 := 1#32
  let v246 : BitVec 32 := Scalar.addi v245 c1_i32_194
  let c1_i32_558 : BitVec 32 := 1#32
  let v645 : BitVec 32 := Scalar.muli v246 c1_i32_558
  let v646 : BitVec 32 := Scalar.addi c0_i32_559 v645
  v646.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_228 : BitVec 32 := 2#32
  let v293 : BitVec 32 := Scalar.muli v258 c2_i32_228
  let c0_i32_229 : BitVec 32 := 0#32
  let v294 : BitVec 32 := Scalar.addi v293 c0_i32_229
  let v299 : BitVec 1 := Scalar.cmpi .eq v294 v2
  let v300 : BitVec 32 := Scalar.extui v299
  let c0_i32_232 : BitVec 32 := 0#32
  let v301 : BitVec 1 := Scalar.cmpi .ne v300 c0_i32_232
  v301

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_228 : BitVec 32 := 2#32
  let v293 : BitVec 32 := Scalar.muli v258 c2_i32_228
  let c0_i32_229 : BitVec 32 := 0#32
  let v294 : BitVec 32 := Scalar.addi v293 c0_i32_229
  let v299 : BitVec 1 := Scalar.cmpi .eq v294 v2
  let true_233 : BitVec 1 := 1#1
  let v302 : BitVec 1 := Scalar.xori v299 true_233
  let v303 : BitVec 32 := Scalar.extui v302
  let c0_i32_236 : BitVec 32 := 0#32
  let v304 : BitVec 1 := Scalar.cmpi .ne v303 c0_i32_236
  v304

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev22 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_228 : BitVec 32 := 2#32
  let v293 : BitVec 32 := Scalar.muli v258 c2_i32_228
  let c0_i32_229 : BitVec 32 := 0#32
  let v294 : BitVec 32 := Scalar.addi v293 c0_i32_229
  let c1_i32_558 : BitVec 32 := 1#32
  let v645 : BitVec 32 := Scalar.muli v294 c1_i32_558
  let v646 : BitVec 32 := Scalar.addi c0_i32_559 v645
  v646.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_237 : BitVec 32 := 2#32
  let v305 : BitVec 32 := Scalar.muli v258 c2_i32_237
  let c1_i32_238 : BitVec 32 := 1#32
  let v306 : BitVec 32 := Scalar.addi v305 c1_i32_238
  let v311 : BitVec 1 := Scalar.cmpi .eq v306 v2
  let v312 : BitVec 32 := Scalar.extui v311
  let c0_i32_241 : BitVec 32 := 0#32
  let v313 : BitVec 1 := Scalar.cmpi .ne v312 c0_i32_241
  v313

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_237 : BitVec 32 := 2#32
  let v305 : BitVec 32 := Scalar.muli v258 c2_i32_237
  let c1_i32_238 : BitVec 32 := 1#32
  let v306 : BitVec 32 := Scalar.addi v305 c1_i32_238
  let v311 : BitVec 1 := Scalar.cmpi .eq v306 v2
  let true_242 : BitVec 1 := 1#1
  let v314 : BitVec 1 := Scalar.xori v311 true_242
  let v315 : BitVec 32 := Scalar.extui v314
  let c0_i32_245 : BitVec 32 := 0#32
  let v316 : BitVec 1 := Scalar.cmpi .ne v315 c0_i32_245
  v316

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev23 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_237 : BitVec 32 := 2#32
  let v305 : BitVec 32 := Scalar.muli v258 c2_i32_237
  let c1_i32_238 : BitVec 32 := 1#32
  let v306 : BitVec 32 := Scalar.addi v305 c1_i32_238
  let c1_i32_558 : BitVec 32 := 1#32
  let v645 : BitVec 32 := Scalar.muli v306 c1_i32_558
  let v646 : BitVec 32 := Scalar.addi c0_i32_559 v645
  v646.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_272 : BitVec 32 := 2#32
  let v353 : BitVec 32 := Scalar.muli v318 c2_i32_272
  let c0_i32_273 : BitVec 32 := 0#32
  let v354 : BitVec 32 := Scalar.addi v353 c0_i32_273
  let v359 : BitVec 1 := Scalar.cmpi .eq v354 v2
  let v360 : BitVec 32 := Scalar.extui v359
  let c0_i32_276 : BitVec 32 := 0#32
  let v361 : BitVec 1 := Scalar.cmpi .ne v360 c0_i32_276
  v361

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_272 : BitVec 32 := 2#32
  let v353 : BitVec 32 := Scalar.muli v318 c2_i32_272
  let c0_i32_273 : BitVec 32 := 0#32
  let v354 : BitVec 32 := Scalar.addi v353 c0_i32_273
  let v359 : BitVec 1 := Scalar.cmpi .eq v354 v2
  let true_277 : BitVec 1 := 1#1
  let v362 : BitVec 1 := Scalar.xori v359 true_277
  let v363 : BitVec 32 := Scalar.extui v362
  let c0_i32_280 : BitVec 32 := 0#32
  let v364 : BitVec 1 := Scalar.cmpi .ne v363 c0_i32_280
  v364

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev24 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_272 : BitVec 32 := 2#32
  let v353 : BitVec 32 := Scalar.muli v318 c2_i32_272
  let c0_i32_273 : BitVec 32 := 0#32
  let v354 : BitVec 32 := Scalar.addi v353 c0_i32_273
  let c1_i32_558 : BitVec 32 := 1#32
  let v645 : BitVec 32 := Scalar.muli v354 c1_i32_558
  let v646 : BitVec 32 := Scalar.addi c0_i32_559 v645
  v646.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_281 : BitVec 32 := 2#32
  let v365 : BitVec 32 := Scalar.muli v318 c2_i32_281
  let c1_i32_282 : BitVec 32 := 1#32
  let v366 : BitVec 32 := Scalar.addi v365 c1_i32_282
  let v371 : BitVec 1 := Scalar.cmpi .eq v366 v2
  let v372 : BitVec 32 := Scalar.extui v371
  let c0_i32_285 : BitVec 32 := 0#32
  let v373 : BitVec 1 := Scalar.cmpi .ne v372 c0_i32_285
  v373

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_281 : BitVec 32 := 2#32
  let v365 : BitVec 32 := Scalar.muli v318 c2_i32_281
  let c1_i32_282 : BitVec 32 := 1#32
  let v366 : BitVec 32 := Scalar.addi v365 c1_i32_282
  let v371 : BitVec 1 := Scalar.cmpi .eq v366 v2
  let true_286 : BitVec 1 := 1#1
  let v374 : BitVec 1 := Scalar.xori v371 true_286
  let v375 : BitVec 32 := Scalar.extui v374
  let c0_i32_289 : BitVec 32 := 0#32
  let v376 : BitVec 1 := Scalar.cmpi .ne v375 c0_i32_289
  v376

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev25 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_281 : BitVec 32 := 2#32
  let v365 : BitVec 32 := Scalar.muli v318 c2_i32_281
  let c1_i32_282 : BitVec 32 := 1#32
  let v366 : BitVec 32 := Scalar.addi v365 c1_i32_282
  let c1_i32_558 : BitVec 32 := 1#32
  let v645 : BitVec 32 := Scalar.muli v366 c1_i32_558
  let v646 : BitVec 32 := Scalar.addi c0_i32_559 v645
  v646.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_316 : BitVec 32 := 2#32
  let v413 : BitVec 32 := Scalar.muli v378 c2_i32_316
  let c0_i32_317 : BitVec 32 := 0#32
  let v414 : BitVec 32 := Scalar.addi v413 c0_i32_317
  let v419 : BitVec 1 := Scalar.cmpi .eq v414 v2
  let v420 : BitVec 32 := Scalar.extui v419
  let c0_i32_320 : BitVec 32 := 0#32
  let v421 : BitVec 1 := Scalar.cmpi .ne v420 c0_i32_320
  v421

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_316 : BitVec 32 := 2#32
  let v413 : BitVec 32 := Scalar.muli v378 c2_i32_316
  let c0_i32_317 : BitVec 32 := 0#32
  let v414 : BitVec 32 := Scalar.addi v413 c0_i32_317
  let v419 : BitVec 1 := Scalar.cmpi .eq v414 v2
  let true_321 : BitVec 1 := 1#1
  let v422 : BitVec 1 := Scalar.xori v419 true_321
  let v423 : BitVec 32 := Scalar.extui v422
  let c0_i32_324 : BitVec 32 := 0#32
  let v424 : BitVec 1 := Scalar.cmpi .ne v423 c0_i32_324
  v424

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev26 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_316 : BitVec 32 := 2#32
  let v413 : BitVec 32 := Scalar.muli v378 c2_i32_316
  let c0_i32_317 : BitVec 32 := 0#32
  let v414 : BitVec 32 := Scalar.addi v413 c0_i32_317
  let c1_i32_558 : BitVec 32 := 1#32
  let v645 : BitVec 32 := Scalar.muli v414 c1_i32_558
  let v646 : BitVec 32 := Scalar.addi c0_i32_559 v645
  v646.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_325 : BitVec 32 := 2#32
  let v425 : BitVec 32 := Scalar.muli v378 c2_i32_325
  let c1_i32_326 : BitVec 32 := 1#32
  let v426 : BitVec 32 := Scalar.addi v425 c1_i32_326
  let v431 : BitVec 1 := Scalar.cmpi .eq v426 v2
  let v432 : BitVec 32 := Scalar.extui v431
  let c0_i32_329 : BitVec 32 := 0#32
  let v433 : BitVec 1 := Scalar.cmpi .ne v432 c0_i32_329
  v433

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_325 : BitVec 32 := 2#32
  let v425 : BitVec 32 := Scalar.muli v378 c2_i32_325
  let c1_i32_326 : BitVec 32 := 1#32
  let v426 : BitVec 32 := Scalar.addi v425 c1_i32_326
  let v431 : BitVec 1 := Scalar.cmpi .eq v426 v2
  let true_330 : BitVec 1 := 1#1
  let v434 : BitVec 1 := Scalar.xori v431 true_330
  let v435 : BitVec 32 := Scalar.extui v434
  let c0_i32_333 : BitVec 32 := 0#32
  let v436 : BitVec 1 := Scalar.cmpi .ne v435 c0_i32_333
  v436

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev27 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_325 : BitVec 32 := 2#32
  let v425 : BitVec 32 := Scalar.muli v378 c2_i32_325
  let c1_i32_326 : BitVec 32 := 1#32
  let v426 : BitVec 32 := Scalar.addi v425 c1_i32_326
  let c1_i32_558 : BitVec 32 := 1#32
  let v645 : BitVec 32 := Scalar.muli v426 c1_i32_558
  let v646 : BitVec 32 := Scalar.addi c0_i32_559 v645
  v646.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_360 : BitVec 32 := 2#32
  let v473 : BitVec 32 := Scalar.muli v438 c2_i32_360
  let c0_i32_361 : BitVec 32 := 0#32
  let v474 : BitVec 32 := Scalar.addi v473 c0_i32_361
  let v479 : BitVec 1 := Scalar.cmpi .eq v474 v2
  let v480 : BitVec 32 := Scalar.extui v479
  let c0_i32_364 : BitVec 32 := 0#32
  let v481 : BitVec 1 := Scalar.cmpi .ne v480 c0_i32_364
  v481

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_360 : BitVec 32 := 2#32
  let v473 : BitVec 32 := Scalar.muli v438 c2_i32_360
  let c0_i32_361 : BitVec 32 := 0#32
  let v474 : BitVec 32 := Scalar.addi v473 c0_i32_361
  let v479 : BitVec 1 := Scalar.cmpi .eq v474 v2
  let true_365 : BitVec 1 := 1#1
  let v482 : BitVec 1 := Scalar.xori v479 true_365
  let v483 : BitVec 32 := Scalar.extui v482
  let c0_i32_368 : BitVec 32 := 0#32
  let v484 : BitVec 1 := Scalar.cmpi .ne v483 c0_i32_368
  v484

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev28 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_360 : BitVec 32 := 2#32
  let v473 : BitVec 32 := Scalar.muli v438 c2_i32_360
  let c0_i32_361 : BitVec 32 := 0#32
  let v474 : BitVec 32 := Scalar.addi v473 c0_i32_361
  let c1_i32_558 : BitVec 32 := 1#32
  let v645 : BitVec 32 := Scalar.muli v474 c1_i32_558
  let v646 : BitVec 32 := Scalar.addi c0_i32_559 v645
  v646.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_369 : BitVec 32 := 2#32
  let v485 : BitVec 32 := Scalar.muli v438 c2_i32_369
  let c1_i32_370 : BitVec 32 := 1#32
  let v486 : BitVec 32 := Scalar.addi v485 c1_i32_370
  let v491 : BitVec 1 := Scalar.cmpi .eq v486 v2
  let v492 : BitVec 32 := Scalar.extui v491
  let c0_i32_373 : BitVec 32 := 0#32
  let v493 : BitVec 1 := Scalar.cmpi .ne v492 c0_i32_373
  v493

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_369 : BitVec 32 := 2#32
  let v485 : BitVec 32 := Scalar.muli v438 c2_i32_369
  let c1_i32_370 : BitVec 32 := 1#32
  let v486 : BitVec 32 := Scalar.addi v485 c1_i32_370
  let v491 : BitVec 1 := Scalar.cmpi .eq v486 v2
  let true_374 : BitVec 1 := 1#1
  let v494 : BitVec 1 := Scalar.xori v491 true_374
  let v495 : BitVec 32 := Scalar.extui v494
  let c0_i32_377 : BitVec 32 := 0#32
  let v496 : BitVec 1 := Scalar.cmpi .ne v495 c0_i32_377
  v496

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev29 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_369 : BitVec 32 := 2#32
  let v485 : BitVec 32 := Scalar.muli v438 c2_i32_369
  let c1_i32_370 : BitVec 32 := 1#32
  let v486 : BitVec 32 := Scalar.addi v485 c1_i32_370
  let c1_i32_558 : BitVec 32 := 1#32
  let v645 : BitVec 32 := Scalar.muli v486 c1_i32_558
  let v646 : BitVec 32 := Scalar.addi c0_i32_559 v645
  v646.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_396 : BitVec 32 := 2#32
  let v525 : BitVec 32 := Scalar.muli v498 c2_i32_396
  let c0_i32_397 : BitVec 32 := 0#32
  let v526 : BitVec 32 := Scalar.addi v525 c0_i32_397
  let v531 : BitVec 1 := Scalar.cmpi .eq v526 v2
  let v532 : BitVec 32 := Scalar.extui v531
  let c0_i32_400 : BitVec 32 := 0#32
  let v533 : BitVec 1 := Scalar.cmpi .ne v532 c0_i32_400
  v533

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_396 : BitVec 32 := 2#32
  let v525 : BitVec 32 := Scalar.muli v498 c2_i32_396
  let c0_i32_397 : BitVec 32 := 0#32
  let v526 : BitVec 32 := Scalar.addi v525 c0_i32_397
  let v531 : BitVec 1 := Scalar.cmpi .eq v526 v2
  let true_401 : BitVec 1 := 1#1
  let v534 : BitVec 1 := Scalar.xori v531 true_401
  let v535 : BitVec 32 := Scalar.extui v534
  let c0_i32_404 : BitVec 32 := 0#32
  let v536 : BitVec 1 := Scalar.cmpi .ne v535 c0_i32_404
  v536

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev30 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_396 : BitVec 32 := 2#32
  let v525 : BitVec 32 := Scalar.muli v498 c2_i32_396
  let c0_i32_397 : BitVec 32 := 0#32
  let v526 : BitVec 32 := Scalar.addi v525 c0_i32_397
  let c1_i32_558 : BitVec 32 := 1#32
  let v645 : BitVec 32 := Scalar.muli v526 c1_i32_558
  let v646 : BitVec 32 := Scalar.addi c0_i32_559 v645
  v646.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_405 : BitVec 32 := 2#32
  let v537 : BitVec 32 := Scalar.muli v498 c2_i32_405
  let c1_i32_406 : BitVec 32 := 1#32
  let v538 : BitVec 32 := Scalar.addi v537 c1_i32_406
  let v543 : BitVec 1 := Scalar.cmpi .eq v538 v2
  let v544 : BitVec 32 := Scalar.extui v543
  let c0_i32_409 : BitVec 32 := 0#32
  let v545 : BitVec 1 := Scalar.cmpi .ne v544 c0_i32_409
  v545

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let v647 : Index := Scalar.indexCast v4
  let c0_561 : Index := 0#32
  ![v647.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_405 : BitVec 32 := 2#32
  let v537 : BitVec 32 := Scalar.muli v498 c2_i32_405
  let c1_i32_406 : BitVec 32 := 1#32
  let v538 : BitVec 32 := Scalar.addi v537 c1_i32_406
  let v543 : BitVec 1 := Scalar.cmpi .eq v538 v2
  let true_410 : BitVec 1 := 1#1
  let v546 : BitVec 1 := Scalar.xori v543 true_410
  let v547 : BitVec 32 := Scalar.extui v546
  let c0_i32_413 : BitVec 32 := 0#32
  let v548 : BitVec 1 := Scalar.cmpi .ne v547 c0_i32_413
  v548

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_560 : BitVec 32 := 0#32
  ![v4.toNat, 0]
def k0_dev31 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_405 : BitVec 32 := 2#32
  let v537 : BitVec 32 := Scalar.muli v498 c2_i32_405
  let c1_i32_406 : BitVec 32 := 1#32
  let v538 : BitVec 32 := Scalar.addi v537 c1_i32_406
  let c1_i32_558 : BitVec 32 := 1#32
  let v645 : BitVec 32 := Scalar.muli v538 c1_i32_558
  let v646 : BitVec 32 := Scalar.addi c0_i32_559 v645
  v646.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_95 : BitVec 32 := 2#32
  let v113 : BitVec 32 := Scalar.muli v78 c2_i32_95
  let c0_i32_96 : BitVec 32 := 0#32
  let v114 : BitVec 32 := Scalar.addi v113 c0_i32_96
  let v119 : BitVec 1 := Scalar.cmpi .eq v114 v2
  let true_494 : BitVec 1 := 1#1
  let v597 : BitVec 1 := Scalar.xori v119 true_494
  let v598 : BitVec 32 := Scalar.extui v597
  let c0_i32_497 : BitVec 32 := 0#32
  let v599 : BitVec 1 := Scalar.cmpi .ne v598 c0_i32_497
  v599

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c0_i32_70 : BitVec 32 := 0#32
  let v77 : BitVec 32 := Scalar.addi v3 c0_i32_70
  let c8_i32_71 : BitVec 32 := 8#32
  let v78 : BitVec 32 := Scalar.remsi v77 c8_i32_71
  let c2_i32_105 : BitVec 32 := 2#32
  let v125 : BitVec 32 := Scalar.muli v78 c2_i32_105
  let c1_i32_106 : BitVec 32 := 1#32
  let v126 : BitVec 32 := Scalar.addi v125 c1_i32_106
  let v131 : BitVec 1 := Scalar.cmpi .eq v126 v2
  let true_498 : BitVec 1 := 1#1
  let v600 : BitVec 1 := Scalar.xori v131 true_498
  let v601 : BitVec 32 := Scalar.extui v600
  let c0_i32_501 : BitVec 32 := 0#32
  let v602 : BitVec 1 := Scalar.cmpi .ne v601 c0_i32_501
  v602

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_140 : BitVec 32 := 2#32
  let v173 : BitVec 32 := Scalar.muli v138 c2_i32_140
  let c0_i32_141 : BitVec 32 := 0#32
  let v174 : BitVec 32 := Scalar.addi v173 c0_i32_141
  let v179 : BitVec 1 := Scalar.cmpi .eq v174 v2
  let true_502 : BitVec 1 := 1#1
  let v603 : BitVec 1 := Scalar.xori v179 true_502
  let v604 : BitVec 32 := Scalar.extui v603
  let c0_i32_505 : BitVec 32 := 0#32
  let v605 : BitVec 1 := Scalar.cmpi .ne v604 c0_i32_505
  v605

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c1_i32_114 : BitVec 32 := 1#32
  let v137 : BitVec 32 := Scalar.addi v3 c1_i32_114
  let c8_i32_115 : BitVec 32 := 8#32
  let v138 : BitVec 32 := Scalar.remsi v137 c8_i32_115
  let c2_i32_149 : BitVec 32 := 2#32
  let v185 : BitVec 32 := Scalar.muli v138 c2_i32_149
  let c1_i32_150 : BitVec 32 := 1#32
  let v186 : BitVec 32 := Scalar.addi v185 c1_i32_150
  let v191 : BitVec 1 := Scalar.cmpi .eq v186 v2
  let true_506 : BitVec 1 := 1#1
  let v606 : BitVec 1 := Scalar.xori v191 true_506
  let v607 : BitVec 32 := Scalar.extui v606
  let c0_i32_509 : BitVec 32 := 0#32
  let v608 : BitVec 1 := Scalar.cmpi .ne v607 c0_i32_509
  v608

def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_184 : BitVec 32 := 2#32
  let v233 : BitVec 32 := Scalar.muli v198 c2_i32_184
  let c0_i32_185 : BitVec 32 := 0#32
  let v234 : BitVec 32 := Scalar.addi v233 c0_i32_185
  let v239 : BitVec 1 := Scalar.cmpi .eq v234 v2
  let true_510 : BitVec 1 := 1#1
  let v609 : BitVec 1 := Scalar.xori v239 true_510
  let v610 : BitVec 32 := Scalar.extui v609
  let c0_i32_513 : BitVec 32 := 0#32
  let v611 : BitVec 1 := Scalar.cmpi .ne v610 c0_i32_513
  v611

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c2_i32_158 : BitVec 32 := 2#32
  let v197 : BitVec 32 := Scalar.addi v3 c2_i32_158
  let c8_i32_159 : BitVec 32 := 8#32
  let v198 : BitVec 32 := Scalar.remsi v197 c8_i32_159
  let c2_i32_193 : BitVec 32 := 2#32
  let v245 : BitVec 32 := Scalar.muli v198 c2_i32_193
  let c1_i32_194 : BitVec 32 := 1#32
  let v246 : BitVec 32 := Scalar.addi v245 c1_i32_194
  let v251 : BitVec 1 := Scalar.cmpi .eq v246 v2
  let true_514 : BitVec 1 := 1#1
  let v612 : BitVec 1 := Scalar.xori v251 true_514
  let v613 : BitVec 32 := Scalar.extui v612
  let c0_i32_517 : BitVec 32 := 0#32
  let v614 : BitVec 1 := Scalar.cmpi .ne v613 c0_i32_517
  v614

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_228 : BitVec 32 := 2#32
  let v293 : BitVec 32 := Scalar.muli v258 c2_i32_228
  let c0_i32_229 : BitVec 32 := 0#32
  let v294 : BitVec 32 := Scalar.addi v293 c0_i32_229
  let v299 : BitVec 1 := Scalar.cmpi .eq v294 v2
  let true_518 : BitVec 1 := 1#1
  let v615 : BitVec 1 := Scalar.xori v299 true_518
  let v616 : BitVec 32 := Scalar.extui v615
  let c0_i32_521 : BitVec 32 := 0#32
  let v617 : BitVec 1 := Scalar.cmpi .ne v616 c0_i32_521
  v617

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c3_i32_202 : BitVec 32 := 3#32
  let v257 : BitVec 32 := Scalar.addi v3 c3_i32_202
  let c8_i32_203 : BitVec 32 := 8#32
  let v258 : BitVec 32 := Scalar.remsi v257 c8_i32_203
  let c2_i32_237 : BitVec 32 := 2#32
  let v305 : BitVec 32 := Scalar.muli v258 c2_i32_237
  let c1_i32_238 : BitVec 32 := 1#32
  let v306 : BitVec 32 := Scalar.addi v305 c1_i32_238
  let v311 : BitVec 1 := Scalar.cmpi .eq v306 v2
  let true_522 : BitVec 1 := 1#1
  let v618 : BitVec 1 := Scalar.xori v311 true_522
  let v619 : BitVec 32 := Scalar.extui v618
  let c0_i32_525 : BitVec 32 := 0#32
  let v620 : BitVec 1 := Scalar.cmpi .ne v619 c0_i32_525
  v620

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_272 : BitVec 32 := 2#32
  let v353 : BitVec 32 := Scalar.muli v318 c2_i32_272
  let c0_i32_273 : BitVec 32 := 0#32
  let v354 : BitVec 32 := Scalar.addi v353 c0_i32_273
  let v359 : BitVec 1 := Scalar.cmpi .eq v354 v2
  let true_526 : BitVec 1 := 1#1
  let v621 : BitVec 1 := Scalar.xori v359 true_526
  let v622 : BitVec 32 := Scalar.extui v621
  let c0_i32_529 : BitVec 32 := 0#32
  let v623 : BitVec 1 := Scalar.cmpi .ne v622 c0_i32_529
  v623

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c4_i32_246 : BitVec 32 := 4#32
  let v317 : BitVec 32 := Scalar.addi v3 c4_i32_246
  let c8_i32_247 : BitVec 32 := 8#32
  let v318 : BitVec 32 := Scalar.remsi v317 c8_i32_247
  let c2_i32_281 : BitVec 32 := 2#32
  let v365 : BitVec 32 := Scalar.muli v318 c2_i32_281
  let c1_i32_282 : BitVec 32 := 1#32
  let v366 : BitVec 32 := Scalar.addi v365 c1_i32_282
  let v371 : BitVec 1 := Scalar.cmpi .eq v366 v2
  let true_530 : BitVec 1 := 1#1
  let v624 : BitVec 1 := Scalar.xori v371 true_530
  let v625 : BitVec 32 := Scalar.extui v624
  let c0_i32_533 : BitVec 32 := 0#32
  let v626 : BitVec 1 := Scalar.cmpi .ne v625 c0_i32_533
  v626

def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_316 : BitVec 32 := 2#32
  let v413 : BitVec 32 := Scalar.muli v378 c2_i32_316
  let c0_i32_317 : BitVec 32 := 0#32
  let v414 : BitVec 32 := Scalar.addi v413 c0_i32_317
  let v419 : BitVec 1 := Scalar.cmpi .eq v414 v2
  let true_534 : BitVec 1 := 1#1
  let v627 : BitVec 1 := Scalar.xori v419 true_534
  let v628 : BitVec 32 := Scalar.extui v627
  let c0_i32_537 : BitVec 32 := 0#32
  let v629 : BitVec 1 := Scalar.cmpi .ne v628 c0_i32_537
  v629

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c5_i32_290 : BitVec 32 := 5#32
  let v377 : BitVec 32 := Scalar.addi v3 c5_i32_290
  let c8_i32_291 : BitVec 32 := 8#32
  let v378 : BitVec 32 := Scalar.remsi v377 c8_i32_291
  let c2_i32_325 : BitVec 32 := 2#32
  let v425 : BitVec 32 := Scalar.muli v378 c2_i32_325
  let c1_i32_326 : BitVec 32 := 1#32
  let v426 : BitVec 32 := Scalar.addi v425 c1_i32_326
  let v431 : BitVec 1 := Scalar.cmpi .eq v426 v2
  let true_538 : BitVec 1 := 1#1
  let v630 : BitVec 1 := Scalar.xori v431 true_538
  let v631 : BitVec 32 := Scalar.extui v630
  let c0_i32_541 : BitVec 32 := 0#32
  let v632 : BitVec 1 := Scalar.cmpi .ne v631 c0_i32_541
  v632

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_360 : BitVec 32 := 2#32
  let v473 : BitVec 32 := Scalar.muli v438 c2_i32_360
  let c0_i32_361 : BitVec 32 := 0#32
  let v474 : BitVec 32 := Scalar.addi v473 c0_i32_361
  let v479 : BitVec 1 := Scalar.cmpi .eq v474 v2
  let true_542 : BitVec 1 := 1#1
  let v633 : BitVec 1 := Scalar.xori v479 true_542
  let v634 : BitVec 32 := Scalar.extui v633
  let c0_i32_545 : BitVec 32 := 0#32
  let v635 : BitVec 1 := Scalar.cmpi .ne v634 c0_i32_545
  v635

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c6_i32_334 : BitVec 32 := 6#32
  let v437 : BitVec 32 := Scalar.addi v3 c6_i32_334
  let c8_i32_335 : BitVec 32 := 8#32
  let v438 : BitVec 32 := Scalar.remsi v437 c8_i32_335
  let c2_i32_369 : BitVec 32 := 2#32
  let v485 : BitVec 32 := Scalar.muli v438 c2_i32_369
  let c1_i32_370 : BitVec 32 := 1#32
  let v486 : BitVec 32 := Scalar.addi v485 c1_i32_370
  let v491 : BitVec 1 := Scalar.cmpi .eq v486 v2
  let true_546 : BitVec 1 := 1#1
  let v636 : BitVec 1 := Scalar.xori v491 true_546
  let v637 : BitVec 32 := Scalar.extui v636
  let c0_i32_549 : BitVec 32 := 0#32
  let v638 : BitVec 1 := Scalar.cmpi .ne v637 c0_i32_549
  v638

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_396 : BitVec 32 := 2#32
  let v525 : BitVec 32 := Scalar.muli v498 c2_i32_396
  let c0_i32_397 : BitVec 32 := 0#32
  let v526 : BitVec 32 := Scalar.addi v525 c0_i32_397
  let v531 : BitVec 1 := Scalar.cmpi .eq v526 v2
  let true_550 : BitVec 1 := 1#1
  let v639 : BitVec 1 := Scalar.xori v531 true_550
  let v640 : BitVec 32 := Scalar.extui v639
  let c0_i32_553 : BitVec 32 := 0#32
  let v641 : BitVec 1 := Scalar.cmpi .ne v640 c0_i32_553
  v641

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.divsi v2 c2_i32
  let c7_i32_378 : BitVec 32 := 7#32
  let v497 : BitVec 32 := Scalar.addi v3 c7_i32_378
  let c8_i32_379 : BitVec 32 := 8#32
  let v498 : BitVec 32 := Scalar.remsi v497 c8_i32_379
  let c2_i32_405 : BitVec 32 := 2#32
  let v537 : BitVec 32 := Scalar.muli v498 c2_i32_405
  let c1_i32_406 : BitVec 32 := 1#32
  let v538 : BitVec 32 := Scalar.addi v537 c1_i32_406
  let v543 : BitVec 1 := Scalar.cmpi .eq v538 v2
  let true_554 : BitVec 1 := 1#1
  let v642 : BitVec 1 := Scalar.xori v543 true_554
  let v643 : BitVec 32 := Scalar.extui v642
  let c0_i32_557 : BitVec 32 := 0#32
  let v644 : BitVec 1 := Scalar.cmpi .ne v643 c0_i32_557
  v644

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v4 : BitVec 32 := Scalar.muli v2 c128_i32
  let c0_i32_561 : BitVec 32 := 0#32
  ![v4.toNat, 0]
abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Proto.lean ====
/-
# The protocol of the kernel: cells, rounds, levels and contents

Sixteen devices each multiply their block of `x` with the whole of `w`, chunk of columns by chunk of columns, apply the
gelu and send the 128 columns that belong to device `j` to device `j`'s result, at the rows of the sender.

* **Entry.** Every device raises the barrier semaphore of each of the other fifteen and waits for fifteen units on its
  own. With the unit it raises on `p`'s barrier a device gives `p` the rows of its own result `p` will write. So no
  copy starts before its target has entered the kernel.
* **Slots.** The block of step `s` (`0 ≤ s < 16`) lies in slot `s` of the scratch and belongs to device `dst c s`. Where
  `dst c s = c` the device stores it into its own result; else a remote copy carries it, on send semaphore `s` of the
  sender and receive semaphore `c` of the target.
* **Exit.** A device waits on receive semaphore `s` for each `s ≠ c`, and gets the rows of sender `s` with their final
  contents; then on each send semaphore it used, and gets the slot back.
* **Loads.** Chunk `t` of `w` comes by a local copy into half `t % 2` of a double buffer on load semaphore `t % 2`; the
  next load is started before the chunk is used, and no access touches a half in flight.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the kernel's own cells; a duty is named by the device that pays it. -/
abbrev UB : Type := URounds (GSem nD τ sig) (Dev nD)
/-- The pipeline's copy, the kernel's rounds, the counters of its local copies. -/
abbrev UU : Type := UR sig nD τ × (UB × Counters)

local notation "𝕄" => MT nD τ sig Unit (Elt F) ℕ UU ℕ

/-- Where the pipeline's copy of the memory lies in the algebra. -/
abbrev EP : Emb (UR sig nD τ) (MT nD τ sig Unit (Elt F) ℕ UU ℕ) := embL
/-- Where the kernel's rounds lie in it. -/
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who sends what to whom -/

set_option backward.proofsInPublic true in
/-- The device `d` steps up the ring from `c`. -/
def nbr (c : Dev nD) (d : ℕ) : Dev nD := ⟨(c.val + d) % 16, Nat.mod_lt _ (by decide)⟩
set_option backward.proofsInPublic true in
/-- The device the block of slot `s` belongs to on device `c`. -/
def dst (c : Dev nD) (s : Fin 16) : Dev nD := ⟨((c.val / 2 + s.val / 2) % 8) * 2 + s.val % 2, by show _ < 16; omega⟩
set_option backward.proofsInPublic true in
/-- The slot of device `c` whose block belongs to device `d`. -/
def slotOf (c d : Dev nD) : Fin 16 := ⟨((d.val / 2 + 8 - c.val / 2) % 8) * 2 + d.val % 2, by omega⟩
set_option backward.proofsInPublic true in
/-- The column chunk of `w` that device `c` multiplies at step `t`. -/
def ck (c : Dev nD) (t : ℕ) : Fin 8 := ⟨(c.val / 2 + t) % 8, Nat.mod_lt _ (by decide)⟩

/-- The slot for `d` belongs to `d`; -/
theorem dst_slotOf : ∀ c d : Dev nD, dst c (slotOf c d) = d := by decide +kernel
/-- and the device that slot `s` belongs to has slot `s`. -/
theorem slotOf_dst : ∀ (c : Dev nD) (s : Fin 16), slotOf c (dst c s) = s := by decide +kernel

/-- Slots and the devices they are for correspond one to one. -/
def slots (c : Dev nD) : Fin 16 ≃ Dev nD := ⟨dst c, slotOf c, slotOf_dst c, dst_slotOf c⟩

/-! ## Memrefs, regions and cells -/

/-- The staged block of `x`. -/
abbrev xM : Memref sig .tc .vmem S128x2048 .f32 := Memref.whole cc0_stg0_0
/-- The staged result. -/
abbrev oM : Memref sig .tc .vmem S2048x128 .bf16 := Memref.whole cc0_stg1_0
/-- All of `w`. -/
abbrev aM : Memref sig .tc .hbm S2048x2048 .f32 := Memref.whole main_arg1
/-- The double buffer for `w`. -/
abbrev wM : Memref sig .tc .vmem S2x2048x256 .f32 := Memref.whole cc0_scratch0
/-- The scratch of sixteen blocks. -/
abbrev yM : Memref sig .tc .vmem S16x128x128 .bf16 := Memref.whole cc0_scratch1

/-- A slot lies inside the scratch; -/
theorem yRect_inb (s : Fin 16) : ∀ a, (![s.val, 0, 0] : Fin 3 → Nat) a + S1x128x128.size a ≤ S16x128x128.size a := by revert s; decide
/-- a sender's rows lie inside the result; -/
theorem oRect_inb (p : Fin 16) : ∀ a, (![128 * p.val, 0] : Fin 2 → Nat) a + S128x128.size a ≤ S2048x128.size a := by revert p; decide
/-- a half lies inside the double buffer; -/
theorem wRect_inb (k : Fin 2) : ∀ a, (![k.val, 0, 0] : Fin 3 → Nat) a + S1x2048x256.size a ≤ S2x2048x256.size a := by revert k; decide
/-- a column chunk lies inside `w`. -/
theorem aRect_inb (j : Fin 8) : ∀ a, (![0, 256 * j.val] : Fin 2 → Nat) a + S2048x256.size a ≤ S2048x2048.size a := by revert j; decide

/-- Slot `s` of the result scratch. -/
abbrev yRect (s : Fin 16) : Rect S16x128x128 := Rect.unit (s := S16x128x128) ![s.val, 0, 0] S1x128x128.size (yRect_inb s)
/-- The rows of the result that sender `p` fills. -/
abbrev oRect (p : Fin 16) : Rect S2048x128 := Rect.unit (s := S2048x128) ![128 * p.val, 0] S128x128.size (oRect_inb p)
/-- Half `k` of the double buffer. -/
abbrev wRect (k : Fin 2) : Rect S2x2048x256 := Rect.unit (s := S2x2048x256) ![k.val, 0, 0] S1x2048x256.size (wRect_inb k)
/-- Column chunk `j` of `w`. -/
abbrev aRect (j : Fin 8) : Rect S2048x2048 := Rect.unit (s := S2048x2048) ![0, 256 * j.val] S2048x256.size (aRect_inb j)

/-- Slot `s` as a 128 by 128 block. -/
abbrev ySlot (s : Fin 16) : Memref sig .tc .vmem S128x128 .bf16 := (yM.slice (yRect s) (fun _ => rfl)).squeeze S128x128 squeezes_S1x128x128_S128x128
/-- The rows of sender `p`, as a block. -/
abbrev oRows (p : Fin 16) : Memref sig .tc .vmem S128x128 .bf16 := oM.slice (oRect p) (fun _ => rfl)
/-- Half `k` of the double buffer, as a matrix. -/
abbrev wHalf (k : Fin 2) : Memref sig .tc .vmem S2048x256 .f32 := (wM.slice (wRect k) (fun _ => rfl)).squeeze S2048x256 squeezes_S1x2048x256_S2048x256
/-- Column chunk `j` of `w`, as a matrix. -/
abbrev aCols (j : Fin 8) : Memref sig .tc .hbm S2048x256 .f32 := aM.slice (aRect j) (fun _ => rfl)

/-- The entries of a slot are those of its box; -/
theorem ySlot_set (s : Fin 16) : (ySlot s).view.set = (yRect s).set := (View.set_reshape _ _).trans (View.set_slice_whole _ _)
/-- so are those of a sender's rows, -/
theorem oRows_set (p : Fin 16) : (oRows p).view.set = (oRect p).set := View.set_slice_whole _ _
/-- those of a half -/
theorem wHalf_set (k : Fin 2) : (wHalf k).view.set = (wRect k).set := (View.set_reshape _ _).trans (View.set_slice_whole _ _)
/-- and those of a column chunk. -/
theorem aCols_set (j : Fin 8) : (aCols j).view.set = (aRect j).set := View.set_slice_whole _ _

/-- The runtime's barrier semaphore. -/
abbrev barS : Sem sig := (SemArray.scalar (sig.barrier 0 rfl) : Sems sig S_).sem
set_option backward.proofsInPublic true in
/-- Load semaphore `k`. -/
def loadQ (k : Fin 2) : DmaSem sig := ⟨2 + k.val, by have := k.isLt; show _ < 36; omega⟩
set_option backward.proofsInPublic true in
/-- Send semaphore `s`. -/
def sendQ (s : Fin 16) : DmaSem sig := ⟨4 + s.val, by have := s.isLt; show _ < 36; omega⟩
set_option backward.proofsInPublic true in
/-- Receive semaphore `s`. -/
def recvQ (s : Fin 16) : DmaSem sig := ⟨20 + s.val, by have := s.isLt; show _ < 36; omega⟩

/-- Device `c`'s barrier. -/
abbrev barCell (c : Dev nD) : GSem nD τ sig := ((c : Thread nD τ), .reg barS)
/-- Load semaphore `k` on device `c`. -/
abbrev loadCell (c : Dev nD) (k : Fin 2) : GSem nD τ sig := ((c : Thread nD τ), .dma (loadQ k))
/-- Send semaphore `s` on device `c`. -/
abbrev sendCell (c : Dev nD) (s : Fin 16) : GSem nD τ sig := ((c : Thread nD τ), .dma (sendQ s))
/-- Receive semaphore `s` on device `c`. -/
abbrev recvCell (c : Dev nD) (s : Fin 16) : GSem nD τ sig := ((c : Thread nD τ), .dma (recvQ s))

set_option backward.proofsInPublic true in
/-- Which send semaphore a semaphore is, if one. -/
def sendIdx : SemLoc sig → Option (Fin 16)
  | .dma q => if h : 4 ≤ q.val ∧ q.val < 20 then some ⟨q.val - 4, by omega⟩ else none
  | .reg _ => none
set_option backward.proofsInPublic true in
/-- Which receive semaphore a semaphore is, if one. -/
def recvIdx : SemLoc sig → Option (Fin 16)
  | .dma q => if h : 20 ≤ q.val ∧ q.val < 36 then some ⟨q.val - 20, by omega⟩ else none
  | .reg _ => none

/-- Send semaphore `s` is number `s` of the send semaphores. -/
theorem sendIdx_send : ∀ s : Fin 16, sendIdx (.dma (sendQ s)) = some s := by decide
/-- A receive semaphore is no send semaphore. -/
theorem sendIdx_recv : ∀ s : Fin 16, sendIdx (.dma (recvQ s)) = none := by decide
/-- A send semaphore is no receive semaphore. -/
theorem recvIdx_send : ∀ s : Fin 16, recvIdx (.dma (sendQ s)) = none := by decide
/-- A load semaphore is no receive semaphore. -/
theorem recvIdx_load : ∀ k : Fin 2, recvIdx (.dma (loadQ k)) = none := by decide
/-- Receive semaphore `s` is number `s` of the receive semaphores. -/
theorem recvIdx_recv : ∀ s : Fin 16, recvIdx (.dma (recvQ s)) = some s := by decide

/-- The credit of one 128 by 128 block. -/
abbrev N : ℕ := (oRows 0).view.dmaCredit
/-- A block's credit is not zero. -/
theorem N_pos : 0 < N := View.dmaCredit_pos _ (by decide)

/-! ## Contents -/

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s copy of `w`. -/
def wAll (c : Dev nD) : Buf (Elt F) ((c : Thread nD τ).loc main_arg1) := m ((c : Thread nD τ).loc main_arg1)

set_option backward.proofsInPublic true in
/-- Column chunk `j` of device `c`'s copy of `w`, as half of the double buffer holds it. -/
def wChunk (c : Dev nD) (j : Fin 8) : Vec F S1x2048x256 .f32 :=
  shapeCast S1x2048x256 ((aCols j).view.read (Elt F) (wAll m c)) (by decide)

/-- The chunk of results (rows of device `c`) for column chunk `j`. -/
def yChunk (c : Dev nD) (j : Fin 8) : FVec F S128x256 .bf16 := k0_pay18 (k0_pay1 (xstg m ρ c)) (wChunk m c j)

/-- The block in slot `s` of device `c`. -/
def yv (c : Dev nD) (s : Fin 16) : FVec F S1x128x128 .bf16 :=
  if s.val % 2 = 0 then k0_pay19 (yChunk m ρ c (ck c (s.val / 2))) else k0_pay21 (yChunk m ρ c (ck c (s.val / 2)))

/-- The block device `p` makes for device `c`. -/
def oBlk (p c : Dev nD) : FVec F S128x128 .bf16 := shapeCast S128x128 (yv m ρ p (slotOf p c)) shapeCasts_S1x128x128_S128x128

set_option backward.proofsInPublic true in
/-- Device `c`'s result: block `p` of its rows is what device `p` made for `c`. -/
def outFull (c : Dev nD) : Buf (Elt F) ((c : Thread nD τ).loc cc0_stg1_0) := fun i : S2048x128.Idx =>
  oBlk m ρ ⟨(i 0).val / 128, by have : (i 0).val < 2048 := (i 0).isLt; show _ < 16; omega⟩ c
    (fun a => match a with | ⟨0, _⟩ => ⟨(i 0).val % 128, Nat.mod_lt _ (by decide)⟩ | ⟨1, _⟩ => i 1)

/-- Slot `s` of device `c`'s scratch, at contents `f`. -/
abbrev yPts (c : Dev nD) (s : Fin 16) (f : Buf (Elt F) ((c : Thread nD τ).loc cc0_scratch1)) : sProp 𝕄 :=
  ((c : Thread nD τ).loc cc0_scratch1) ↦[(yRect s).set]{fullShare} f
/-- The rows of device `c`'s result that sender `p` fills, at contents `f`. -/
abbrev oPts (c : Dev nD) (p : Fin 16) (f : Buf (Elt F) ((c : Thread nD τ).loc cc0_stg1_0)) : sProp 𝕄 :=
  ((c : Thread nD τ).loc cc0_stg1_0) ↦[(oRect p).set]{fullShare} f

/-! ## The schedule -/

/-- What device `p`'s unit hands the owner `c` of a barrier cell: the rows of `p`'s result that `c` will fill. -/
def barPay (c p : Dev nD) : sProp 𝕄 := iprop(∃ f, oPts p c f)
/-- What a landing on receive cell `s` hands its owner: the rows of sender `s`, filled. -/
def recvPay (c : Dev nD) (s : Fin 16) : sProp 𝕄 := oPts c s (outFull m ρ c)
/-- What the end of a send hands the sender: the slot back. -/
def sendPay (c : Dev nD) (s : Fin 16) : sProp 𝕄 := iprop(∃ f, yPts c s f)

/-- One round, round 0. A barrier cell has one duty of one unit for each other device; receive cell `s` the duty of
    sender `s` unless that is the owner; send cell `s` the owner's unless the slot is its own. -/
def ringRd : Rounds.Schedule (GSem nD τ sig) (Dev nD) 𝕄 where
  duties g r := if r = 0 ∧ g.1.2 = .tc then
      (if g.2 = .reg barS then Finset.univ.erase g.1.1 else
        match recvIdx g.2 with
        | some s => if s = g.1.1 then ∅ else {s}
        | none => match sendIdx g.2 with
          | some s => if dst g.1.1 s = g.1.1 then ∅ else {g.1.1}
          | none => ∅)
    else ∅
  unitless _ := False
  amount g _ _ := if g.2 = .reg barS then 1 else N
  payload g _ d := if g.2 = .reg barS then barPay g.1.1 d else
        match recvIdx g.2 with
        | some s => recvPay m ρ g.1.1 s
        | none => match sendIdx g.2 with
          | some s => sendPay g.1.1 s
          | none => iprop(emp)
  amount_pos g _ _ _ := by
    by_cases h : g.2 = .reg barS
    · rw [if_pos h]; exact Nat.one_pos
    · rw [if_neg h]; exact N_pos

/-- What a duty hands over is memory only, so an invariant may hold it. -/
instance ringRd_payload_storable (g : GSem nD τ sig) (r : ℕ) (d : Dev nD) :
    BI.Storable (upEmb : UEmb _ 𝕄) ((ringRd (F := F) m ρ).payload g r d) := by
  show BI.Storable upEmb (if g.2 = .reg barS then barPay g.1.1 d else
        match recvIdx g.2 with
        | some s => recvPay m ρ g.1.1 s
        | none => match sendIdx g.2 with
          | some s => sendPay g.1.1 s
          | none => iprop(emp))
  unfold barPay recvPay sendPay
  (repeat' split) <;> infer_instance

section Sched
variable (c : Dev nD) (s : Fin 16)

/-- A copy's semaphore is not the barrier. -/
theorem dma_ne_bar (q : DmaSem sig) : (SemLoc.dma q : SemLoc sig) ≠ .reg barS := fun h => by cases h

/-- The barrier of `c` is paid by every device but `c`; -/
theorem duties_bar : (ringRd (F := F) m ρ).duties (barCell c) 0 = Finset.univ.erase c := by
  dsimp only [ringRd]; rw [if_pos ⟨rfl, rfl⟩, if_pos rfl]
/-- receive cell `s` by sender `s`, unless that is the owner; -/
theorem duties_recv : (ringRd (F := F) m ρ).duties (recvCell c s) 0 = if s = c then ∅ else {s} := by
  dsimp only [ringRd]; rw [if_pos ⟨rfl, rfl⟩, if_neg (dma_ne_bar _), recvIdx_recv]
/-- send cell `s` by the owner, unless the slot's block stays there; -/
theorem duties_send : (ringRd (F := F) m ρ).duties (sendCell c s) 0 = if dst c s = c then ∅ else {c} := by
  dsimp only [ringRd]; rw [if_pos ⟨rfl, rfl⟩, if_neg (dma_ne_bar _), recvIdx_send]; dsimp only; rw [sendIdx_send]
/-- and nobody owes anything after round 0. -/
theorem duties_later (g : GSem nD τ sig) : ∀ r, 1 ≤ r → (ringRd (F := F) m ρ).duties g r = ∅ :=
  fun r hr => by dsimp only [ringRd]; rw [if_neg fun h => by omega]

/-- A barrier's payer pays one unit; -/
theorem amount_bar (d : Dev nD) : (ringRd (F := F) m ρ).amount (barCell c) 0 d = 1 := by dsimp only [ringRd]; exact if_pos rfl
/-- a copy pays one block. -/
theorem amount_dma (q : DmaSem sig) (d : Dev nD) : (ringRd (F := F) m ρ).amount ((c : Thread nD τ), .dma q) 0 d = N := by
  dsimp only [ringRd]; exact if_neg (dma_ne_bar _)

/-- A barrier's round has fifteen units; -/
theorem expect_bar : (ringRd (F := F) m ρ).expect (barCell c) 0 = 15 := by
  unfold Schedule.expect Schedule.amountOf
  rw [duties_bar, Finset.sum_congr rfl fun d _ => amount_bar m ρ c d, Finset.sum_const, Finset.card_erase_of_mem (Finset.mem_univ _),
    Finset.card_univ, smul_eq_mul]; rfl
/-- a used receive cell's round has one block, -/
theorem expect_recv (h : s ≠ c) : (ringRd (F := F) m ρ).expect (recvCell c s) 0 = N := by
  unfold Schedule.expect Schedule.amountOf; rw [duties_recv, if_neg h, Finset.sum_singleton, amount_dma]
/-- and so has a used send cell's. -/
theorem expect_send (h : dst c s ≠ c) : (ringRd (F := F) m ρ).expect (sendCell c s) 0 = N := by
  unfold Schedule.expect Schedule.amountOf; rw [duties_send, if_neg h, Finset.sum_singleton, amount_dma]

/-- What a unit on a barrier hands over; -/
theorem payload_bar (d : Dev nD) : (ringRd (F := F) m ρ).payload (barCell c) 0 d = barPay c d := by dsimp only [ringRd]; rw [if_pos rfl]
/-- what a landing hands over; -/
theorem payload_recv (d : Dev nD) : (ringRd (F := F) m ρ).payload (recvCell c s) 0 d = recvPay m ρ c s := by
  dsimp only [ringRd]; rw [if_neg (dma_ne_bar _), recvIdx_recv]
/-- what the end of a send hands over. -/
theorem payload_send (d : Dev nD) : (ringRd (F := F) m ρ).payload (sendCell c s) 0 d = sendPay c s := by
  dsimp only [ringRd]; rw [if_neg (dma_ne_bar _), recvIdx_send]; dsimp only; rw [sendIdx_send]

/-- All of a barrier cell's round: every other device's rows for `c`. -/
theorem rest_bar : bigSep ((ringRd (F := F) m ρ).duties (barCell c) 0 \ ∅) (fun d => (ringRd (F := F) m ρ).payload (barCell c) 0 d)
    = bigSep (Finset.univ.erase c) fun p => barPay c p := by
  rw [Finset.sdiff_empty, duties_bar]; exact bigSep_congr fun d _ => payload_bar m ρ c d
/-- All of a used receive cell's round: the sender's rows, filled. -/
theorem rest_recv (h : s ≠ c) : bigSep ((ringRd (F := F) m ρ).duties (recvCell c s) 0 \ ∅) (fun d => (ringRd (F := F) m ρ).payload (recvCell c s) 0 d)
    = recvPay m ρ c s := by
  rw [Finset.sdiff_empty, duties_recv, if_neg h, bigSep_singleton, payload_recv]
/-- All of a used send cell's round: the slot. -/
theorem rest_send (h : dst c s ≠ c) : bigSep ((ringRd (F := F) m ρ).duties (sendCell c s) 0 \ ∅) (fun d => (ringRd (F := F) m ρ).payload (sendCell c s) 0 d)
    = sendPay c s := by
  rw [Finset.sdiff_empty, duties_send, if_neg h, bigSep_singleton, payload_send]

end Sched

/-! ## Indices of the cells; the shared records -/

/-- Which cell of a device: the barrier, send `s`, receive `s`. -/
abbrev CK : Type := Unit ⊕ (Fin 16 ⊕ Fin 16)
/-- The semaphore of such a cell. -/
def csem : CK → SemLoc sig
  | .inl _ => .reg barS
  | .inr (.inl s) => .dma (sendQ s)
  | .inr (.inr s) => .dma (recvQ s)
/-- The cell itself, on a device. -/
abbrev kcell (x : Dev nD × CK) : GSem nD τ sig := ((x.1 : Thread nD τ), csem x.2)

/-! ## What is owed; the levels -/

set_option backward.proofsInPublic true in
/-- The devices still to be signalled when the next signal goes `n` steps up the ring. -/
def sigSet (c : Dev nD) (n : ℕ) : Finset (Dev nD) := Finset.univ.filter fun p => n ≤ (p.val + 16 - c.val) % 16
/-- The slots from `n` on. -/
def fromS (n : ℕ) : Finset (Fin 16) := Finset.univ.filter fun s => n ≤ s.val
/-- The slots before `n`. -/
def uptoS (n : ℕ) : Finset (Fin 16) := Finset.univ.filter fun s => s.val < n

/-- The slots from `n` on are slot `n` and those from `n + 1` on, -/
theorem fromS_succ {n : ℕ} (s : Fin 16) (h : s.val = n) : fromS n = insert s (fromS (n + 1)) := by
  ext x; simp only [fromS, Finset.mem_filter, Finset.mem_univ, true_and, Finset.mem_insert, Fin.ext_iff]; omega
/-- where slot `n` is not. -/
theorem not_mem_fromS {n : ℕ} (s : Fin 16) (h : s.val = n) : s ∉ fromS (n + 1) := by
  simp only [fromS, Finset.mem_filter, Finset.mem_univ, true_and]; omega
/-- The slots before `n + 1` are slot `n` and those before `n`, -/
theorem uptoS_succ {n : ℕ} (s : Fin 16) (h : s.val = n) : uptoS (n + 1) = insert s (uptoS n) := by
  ext x; simp only [uptoS, Finset.mem_filter, Finset.mem_univ, true_and, Finset.mem_insert, Fin.ext_iff]; omega
/-- where slot `n` is not. -/
theorem not_mem_uptoS {n : ℕ} (s : Fin 16) (h : s.val = n) : s ∉ uptoS n := by
  simp only [uptoS, Finset.mem_filter, Finset.mem_univ, true_and]; omega
/-- All slots are from 0 on; -/
theorem fromS_zero : fromS 0 = Finset.univ := by decide
/-- none is from 16 on; -/
theorem fromS_end : fromS 16 = ∅ := by decide
/-- none is before 0; -/
theorem uptoS_zero : uptoS 0 = ∅ := by decide
/-- all are before 16. -/
theorem uptoS_end : uptoS 16 = Finset.univ := by decide
/-- Before the first signal every other device is still to be signalled; -/
theorem sigSet_one : ∀ c, sigSet c 1 = Finset.univ.erase c := by decide +kernel
/-- after the last, none. -/
theorem sigSet_end : ∀ c, sigSet c 16 = ∅ := by decide +kernel
/-- The `n`-th signal takes the `n`-th neighbour off the list, -/
theorem sigSet_succ : ∀ (c : Dev nD) (n : Fin 16), sigSet c n.val = insert (nbr c n.val) (sigSet c (n.val + 1)) := by decide +kernel
/-- and it is not on the list any more. -/
theorem not_mem_sigSet : ∀ (c : Dev nD) (n : Fin 16), nbr c n.val ∉ sigSet c (n.val + 1) := by decide +kernel

/-- What the send of slot `s` owes. -/
def slotOwe (c : Dev nD) (s : Fin 16) : CellTallies nD τ sig Unit := if dst c s = c then 0 else tallyAt (recvCell (dst c s) c) () N
/-- What the sends of slots from `n` on owe. -/
def owedSlots (c : Dev nD) (n : ℕ) : CellTallies nD τ sig Unit := ∑ s ∈ fromS n, slotOwe c s
/-- What the signals from the `n`-th on owe. -/
def owedSigs (c : Dev nD) (n : ℕ) : CellTallies nD τ sig Unit := ∑ p ∈ sigSet c n, tallyAt (barCell p) () 1

/-- A device owes every other device's barrier one unit, and each its block's credit. -/
def O₀ (c : Dev nD) : CellTallies nD τ sig Unit := owedSlots c 0 + owedSigs c 1

/-- Every cell of a device has one kind of unit. -/
def L (g : GSem nD τ sig) : Finset Unit := if g.1.2 = .tc then {()} else ∅
/-- barrier cells at 1, receive cells at 2, everything else at 0. -/
def lv (g : GSem nD τ sig) (_ : Unit) : ℕ := if g.2 = .reg barS then 1 else if (recvIdx g.2).isSome then 2 else 0

/-- Other threads have no cells; -/
theorem L_of_ne (g : GSem nD τ sig) (h : g.1.2 ≠ .tc) : L g = ∅ := if_neg h
/-- a device's cells have the one kind. -/
theorem L_tc (c : Dev nD) (sm : SemLoc sig) : L ((c : Thread nD τ), sm) = {()} := if_pos rfl
/-- Barriers are at level 1, -/
theorem lv_bar (c : Dev nD) : lv (barCell c) () = 1 := if_pos rfl
/-- receive cells at level 2. -/
theorem lv_recv (c : Dev nD) (s : Fin 16) : lv (recvCell c s) () = 2 := by
  unfold lv; rw [if_neg (dma_ne_bar _), recvIdx_recv]; rfl

/-- If a sum of debts owes something, one of its terms does. -/
theorem sum_tallies_pos {ι : Type} {S : Finset ι} {f : ι → CellTallies nD τ sig Unit} {g : GSem nD τ sig} {u : Unit}
    (h : 0 < (∑ i ∈ S, f i) g u) : ∃ i ∈ S, 0 < f i g u := by
  by_contra hn
  push Not at hn
  rw [Finset.sum_apply, Finsupp.finset_sum_apply] at h
  exact absurd h (by rw [Finset.sum_eq_zero fun i hi => Nat.le_zero.mp (hn i hi)]; exact Nat.lt_irrefl 0)

/-- The sends owe receive cells of their targets only; -/
theorem owedSlots_pos {c : Dev nD} {n : ℕ} {g : GSem nD τ sig} {u : Unit} (h : 0 < owedSlots c n g u) :
    ∃ s, g = recvCell (dst c s) c := by
  obtain ⟨s, -, hs⟩ := sum_tallies_pos h
  refine ⟨s, ?_⟩
  unfold slotOwe at hs
  split at hs
  · exact absurd hs (Nat.lt_irrefl 0)
  · rw [tallyAt_apply] at hs
    by_contra hg
    rw [if_neg (fun h' => hg h'.1)] at hs
    exact Nat.lt_irrefl 0 hs

/-- the signals owe barriers only; -/
theorem owedSigs_pos {c : Dev nD} {n : ℕ} {g : GSem nD τ sig} {u : Unit} (h : 0 < owedSigs c n g u) :
    ∃ p, g = barCell p := by
  obtain ⟨p, -, hs⟩ := sum_tallies_pos h
  refine ⟨p, ?_⟩
  rw [tallyAt_apply] at hs
  by_contra hg
  rw [if_neg (fun h' => hg h'.1)] at hs
  exact Nat.lt_irrefl 0 hs

/-- so at the start a device owes such cells only. -/
theorem O₀_pos {c : Dev nD} {g : GSem nD τ sig} {u : Unit} (h : 0 < O₀ c g u) :
    (∃ s, g = recvCell (dst c s) c) ∨ ∃ p, g = barCell p := by
  unfold O₀ at h
  rw [Pi.add_apply, Finsupp.add_apply] at h
  rcases Nat.eq_zero_or_pos (owedSlots c 0 g u) with h0 | h0
  · rw [h0, Nat.zero_add] at h; exact .inr (owedSigs_pos h)
  · exact .inl (owedSlots_pos h0)

/-- A device may wait on a cell at level 0 whatever it still owes. -/
theorem mayWait_low (c : Dev nD) (sm : SemLoc sig) (hq : lv ((c : Thread nD τ), sm) () = 0) (O : CellTallies nD τ sig Unit)
    (hO : ∀ g u, 0 < O g u → (∃ p s, g = recvCell p s) ∨ ∃ p, g = barCell p) :
    (levAts L lv : sProp 𝕄) ⊢ MayWait (c : Thread nD τ) sm () O :=
  MayOwe.of_cut (L := L) (lev := lv) 0 (fun p hp => by rw [Finset.mem_singleton.mp hp, L_tc]; exact Finset.mem_singleton_self _)
      (fun g u hg => by rcases hO g u hg with ⟨p, s, rfl⟩ | ⟨p, rfl⟩ <;> exact Finset.mem_singleton_self _)
      (fun p hp => by rw [Finset.mem_singleton.mp hp]; exact le_of_eq hq)
      (fun g u hg => by
        rcases hO g u hg with ⟨p, s, rfl⟩ | ⟨p, rfl⟩
        · rw [lv_recv]; decide
        · rw [lv_bar]; decide)

/-- At its barrier wait a device owes receive credits only, which are above its barrier cell. -/
theorem mayWait_bar (c : Dev nD) (n : ℕ) : (levAts L lv : sProp 𝕄) ⊢ MayWait (c : Thread nD τ) (.reg barS) () (owedSlots c n) :=
  MayOwe.of_cut (L := L) (lev := lv) 1 (fun p hp => by rw [Finset.mem_singleton.mp hp, L_tc]; exact Finset.mem_singleton_self _)
      (fun g u hg => by obtain ⟨s, rfl⟩ := owedSlots_pos hg; exact Finset.mem_singleton_self _)
      (fun p hp => by rw [Finset.mem_singleton.mp hp]; exact le_of_eq (lv_bar c))
      (fun g u hg => by obtain ⟨s, rfl⟩ := owedSlots_pos hg; rw [lv_recv]; decide)

/-- While it loads, a device owes receive credits only, which are above its load cells. -/
theorem mayWait_load (c : Dev nD) (k : Fin 2) (n : ℕ) : (levAts L lv : sProp 𝕄) ⊢ MayWait (c : Thread nD τ) (.dma (loadQ k)) () (owedSlots c n) :=
  mayWait_low c _ (by unfold lv; rw [if_neg (dma_ne_bar _), recvIdx_load]; rfl) _ (fun g u hg => by obtain ⟨s, rfl⟩ := owedSlots_pos hg; exact .inl ⟨_, _, rfl⟩)

end Cert.KProof

end
-- ==== Proof.Steps.lean ====
/-
# The steps of the kernel

The state a device is in between two effects, as a resource per family (signals, slots, loads, receives, sends), and one
theorem per kind of step that moves a family from one index to the next.
-/
module

public import proofs.«01_k».proof.Proof.Proto

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a measure. -/
abbrev 𝒱₀ : Variants := Variants.none

/-- The programs of the kernel's core. -/
abbrev Code (F : FTy → Type) (α : Type) : Type 1 := Prog (TpuEff nD τ sig (Elt F) Λ₀ .tc) α

/-- Running `p` on device `c`'s core ends in `Q`. -/
abbrev WP (c : Dev nD) {α : Type} (p : Code F α) (Q : α → sProp 𝕄) : sProp 𝕄 :=
  wp frame (wpE (defs₀ (F := F)) 𝒱₀ (c : Thread nD τ) none) Set.univ p Q

/-- A family over a set with one more index is that index's part and the rest. -/
theorem bigSep_ins {I : Type} [DecidableEq I] {s : Finset I} {i : I} (h : i ∉ s) {Φ : I → sProp 𝕄} :
    bigSep (insert i s) Φ = iprop(Φ i ∗ bigSep s Φ) := BI.bigSep_insert h
/-- Any one member may be taken out of a family. -/
theorem bigSep_get {I : Type} [DecidableEq I] {s : Finset I} {i : I} (h : i ∈ s) {Φ : I → sProp 𝕄} :
    (bigSep s Φ : sProp 𝕄) ⊢ Φ i := BI.bigSep_elim h

/-! ## Contents seen through the views -/

/-- A slot read as a block is the slot read as stored, its unit axis dropped. -/
theorem ySlot_read (s : Fin 16) (f : (cc0_scratch1 : Ref sig .tc).ty.Contents (Elt F)) :
    (ySlot s).view.read (Elt F) f = shapeCast S128x128 ((yM.access (yRect s)).read (Elt F) f : FVec F S1x128x128 .bf16) shapeCasts_S1x128x128_S128x128 := rfl

/-- A unit axis may be added to half of the double buffer -/
theorem casts12 : S2048x256.ShapeCasts S1x2048x256 := by decide
/-- and dropped. -/
theorem casts21 : S1x2048x256.ShapeCasts S2048x256 := by decide

/-- A half read with its unit axis is the half read as a matrix. -/
theorem wHalf_read (k : Fin 2) (f : (cc0_scratch0 : Ref sig .tc).ty.Contents (Elt F)) :
    (wM.access (wRect k)).read (Elt F) f = shapeCast S1x2048x256 ((wHalf k).view.read (Elt F) f : FVec F S2048x256 .f32) casts12 := by
  show _ = shapeCast S1x2048x256 (shapeCast S2048x256 ((wM.access (wRect k)).read (Elt F) f : FVec F S1x2048x256 .f32) casts21) casts12
  rw [shapeCast_shapeCast]

/-- A half of the double buffer that a chunk was copied into reads as that chunk. -/
theorem wHalf_landed (c : Dev nD) (k : Fin 2) (j : Fin 8) (fd : (cc0_scratch0 : Ref sig .tc).ty.Contents (Elt F)) :
    (wM.access (wRect k)).read (Elt F) ((wHalf k).view.write (Elt F) fd ((aCols j).view.read (Elt F) (wAll m c)) Finset.univ) = wChunk m c j := by
  rw [wHalf_read, View.read_write_univ]; rfl

/-- Row `x` of sender `p`'s block is row `128 p + x` of the result; -/
theorem oRows_emb0 (p : Fin 16) (x : S128x128.Idx) : (((oRows p).view.emb x : S2048x128.Idx) 0).val = 128 * p.val + (x 0).val := by
  show 128 * p.val + 1 * (x 0).val = _; omega
/-- columns stay. -/
theorem oRows_emb1 (p : Fin 16) (x : S128x128.Idx) : (((oRows p).view.emb x : S2048x128.Idx) 1).val = (x 1).val := by
  show 0 + 1 * (x 1).val = _; omega

/-- The rows of sender `p` with its block written are those of the final result. -/
theorem oRows_landed (c : Dev nD) (p : Fin 16) (fd : (cc0_stg1_0 : Ref sig .tc).ty.Contents (Elt F)) :
    ∀ i ∈ (oRect p).set, (oRows p).view.write (Elt F) fd (oBlk m ρ p c) Finset.univ i = outFull m ρ c i := by
  intro i hi
  rw [← oRows_set] at hi
  obtain ⟨x, -, rfl⟩ := Finset.mem_map.mp hi
  refine (View.write_emb_of_mem _ _ (Finset.mem_univ x)).trans ?_
  have h0 := oRows_emb0 p x
  have h1 := oRows_emb1 p x
  have hx : (x 0).val < 128 := (x 0).isLt
  have key : ∀ (q : Dev nD) (y : S128x128.Idx), q = p → y = x → oBlk m ρ p c x = oBlk m ρ q c y := by rintro q y rfl rfl; rfl
  refine key _ _ (Fin.ext (by show (((oRows p).view.emb x : S2048x128.Idx) 0).val / 128 = p.val; omega)) (funext fun a => ?_)
  match a with
  | ⟨0, _⟩ => exact Fin.ext (by show (((oRows p).view.emb x : S2048x128.Idx) 0).val % 128 = (x 0).val; omega)
  | ⟨1, _⟩ => exact Fin.ext h1

/-! ## The shared records -/

section
variable (K : Dev nD × CK → ℕ)

/-- All invariants, all marks of reached rounds, all levels: known to every device throughout. -/
def ctx : sProp 𝕄 :=
  iprop((bigSep Finset.univ fun x : Dev nD × CK => cellInv ER (ringRd m ρ) (K x) (kcell x))
    ∗ (bigSep Finset.univ fun x : Dev nD × CK => reached ER (kcell x) 0) ∗ levAts L lv)

/-- The shared records may be used again and again. -/
instance ctx_persistent : BI.Persistent (ctx m ρ K) := by unfold ctx; infer_instance

/-- They hold each cell's invariant, -/
theorem ctx_inv (x : Dev nD × CK) : ctx m ρ K ⊢ cellInv ER (ringRd m ρ) (K x) (kcell x) := by
  unfold ctx; iintro ⟨H, -, -⟩; iapply (bigSep_get (Finset.mem_univ x)) $$ H
/-- that each cell is at round 0, -/
theorem ctx_reached (x : Dev nD × CK) : ctx m ρ K ⊢ reached ER (kcell x) 0 := by
  unfold ctx; iintro ⟨-, H, -⟩; iapply (bigSep_get (Finset.mem_univ x)) $$ H
/-- and the levels. -/
theorem ctx_lev : ctx m ρ K ⊢ (levAts L lv : sProp 𝕄) := by
  unfold ctx; iintro ⟨-, -, H⟩; iexact H
/-- So a device may wait at its barrier while it owes sends, -/
theorem ctx_wait_bar (c : Dev nD) (n : ℕ) : ctx m ρ K ⊢ MayWait (c : Thread nD τ) (.reg barS) () (owedSlots c n) := (ctx_lev (F := F) m ρ K).trans (mayWait_bar c n)
/-- and for its loads. -/
theorem ctx_wait_load (c : Dev nD) (k : Fin 2) (n : ℕ) : ctx m ρ K ⊢ MayWait (c : Thread nD τ) (.dma (loadQ k)) () (owedSlots c n) := (ctx_lev (F := F) m ρ K).trans (mayWait_load c k n)

end

/-- Device `c` owes `O`, whatever it has waited for. -/
def Owe (c : Dev nD) (O : CellTallies nD τ sig Unit) : sProp 𝕄 := iprop(∃ W, owes (c : Thread nD τ) O W)

/-! ## Signals -/

/-- Before the `n`-th signal: the signals from `n` on are owed, with a duty token and the rows to give away for each. -/
def SigSt (c : Dev nD) (n : ℕ) : sProp 𝕄 :=
  iprop(Owe c (owedSlots c 0 + owedSigs c n)
    ∗ bigSep (sigSet c n) fun p => iprop(dutyTok ER (barCell p) 0 c ∗ ∃ f, oPts c p f))

/-- No neighbour on the ring is the device itself. -/
theorem self_ne_nbr : ∀ (c : Dev nD) (n : Fin 16), n ≠ 0 → c ≠ nbr c n.val := by decide +kernel

/-- The signals from the `n`-th on owe the `n`-th neighbour's barrier a unit, and what the later ones owe. -/
theorem owedSigs_succ (c : Dev nD) (n : Fin 16) : owedSigs c n.val = owedSigs c (n.val + 1) + tallyAt (barCell (nbr c n.val)) () 1 := by
  unfold owedSigs; rw [sigSet_succ, Finset.sum_insert (not_mem_sigSet c n), add_comm]

/-- The `n`-th signal. -/
theorem wp_sig (K : Dev nD × CK → ℕ) (c : Dev nD) (n : Fin 16) (hn : n ≠ 0) {n' : ℕ} (hn' : n' = n.val + 1) {d : Dev nD} (hd : d = nbr c n.val)
    {α : Type} {Q : α → sProp 𝕄} {k : PUnit → Code F α} :
    iprop(ctx m ρ K ∗ SigSt c n.val)
      ⊢ iprop((SigSt c n' -∗ WP c (k ⟨⟩) Q) -∗ WP c (Prog.op (.semSignal (d : Thread nD τ) barS 1) k) Q) := by
  subst hd hn'
  unfold SigSt Owe
  rw [sigSet_succ, bigSep_ins (not_mem_sigSet c n)]
  iintro ⟨#HC, ⟨%W, HO⟩, ⟨Htok, Hrow⟩, Hrest⟩
  iintro Hk
  iapply (Rounds.wp_signal 𝒱₀ ER (ringRd m ρ) (c : Thread nD τ) none (dst := (nbr c n.val : Thread nD τ)) (κ := K (nbr c n.val, .inl ()))
      (d := c) (by rw [duties_bar]; exact Finset.mem_erase.mpr ⟨self_ne_nbr c n hn, Finset.mem_univ _⟩) (amount_bar m ρ _ _) ()
      (owedSlots c 0 + owedSigs c (n.val + 1)) ((congrArg (owedSlots c 0 + ·) (owedSigs_succ c n)).trans (add_assoc _ _ _).symm)) $$ [HO Htok Hrow]
  · isplitr; · iapply (ctx_inv (F := F) m ρ K (nbr c n.val, .inl ())) $$ HC
    isplitl [HO]; · iexact HO
    isplitl [Htok]; · iexact Htok
    isplitl [Hrow]; · rw [payload_bar]; unfold barPay; iexact Hrow
    iapply (ctx_reached (F := F) m ρ K (nbr c n.val, .inl ())) $$ HC
  iintro HO
  iapply Hk
  isplitl [HO]; · iexists W; iexact HO
  iexact Hrest

/-- The barrier wait: every other device's rows for `c` come with it, and the barrier cell closes. -/
theorem wp_bar (K : Dev nD × CK → ℕ) (c : Dev nD) {α : Type} {Q : α → sProp 𝕄} {k : PUnit → Code F α} :
    iprop(ctx m ρ K ∗ SigSt c 16 ∗ cred (tallyAt (barCell c) () 15) ∗ atPos ER (barCell c) 0 ∅ 0)
      ⊢ iprop((iprop(Owe c (owedSlots c 0) ∗ semVal (barCell c) 0 ∗ bigSep (Finset.univ.erase c) fun p => barPay c p) -∗ WP c (k ⟨⟩) Q)
          -∗ WP c (Prog.op (.semWait barS 15) k) Q) := by
  unfold SigSt Owe
  iintro ⟨#HC, ⟨⟨%W, HO⟩, -⟩, Hcr, Hat⟩
  iintro Hk
  ihave HO := (Entails.of_eq (show owes (c : Thread nD τ) (owedSlots c 0 + owedSigs c 16) W = (owes (c : Thread nD τ) (owedSlots c 0) W : sProp 𝕄) by
    unfold owedSigs; rw [sigSet_end, Finset.sum_empty, add_zero])) $$ HO
  iapply (Rounds.wp_wait_rest_token 𝒱₀ ER (ringRd m ρ) (c : Thread nD τ) none (κ := K (c, .inl ()))
      (wpE_semWait_eq 𝒱₀ (c : Thread nD τ) none Set.univ) (Set.mem_univ _) () (O := owedSlots c 0) (W := W) (R := 0) (m := 0) (T := ∅)
      (by rw [expect_bar])) $$ [Hcr HO Hat]
  · isplitr; · iapply (ctx_inv (F := F) m ρ K (c, .inl ())) $$ HC
    isplitl [Hcr]; · iexact Hcr
    isplitl [HO]; · iexact HO
    isplitr; · iapply (ctx_wait_bar (F := F) m ρ K c 0) $$ HC
    iexact Hat
  iintro ⟨HO, Hat, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (ctx_inv (F := F) m ρ K (c, .inl ())) $$ HC
    iexact Hat
  iapply Hk
  isplitl [HO]; · iexists _; iexact HO
  isplitl [Hz] <;> iassumption

/-! ## Slots -/

/-- What the send of slot `s` needs besides the slot: the target's rows and the two duty tokens. -/
def Res (c : Dev nD) (s : Fin 16) : sProp 𝕄 :=
  iprop((∃ f, oPts (dst c s) c f) ∗ dutyTok ER (recvCell (dst c s) c) 0 c ∗ dutyTok ER (sendCell c s) 0 c)
/-- A slot not yet filled. -/
def Pre (c : Dev nD) (s : Fin 16) : sProp 𝕄 := iprop((∃ f, yPts c s f) ∗ Res c s)
/-- A slot after its send, or after its own store. -/
def Post (c : Dev nD) (s : Fin 16) : sProp 𝕄 :=
  if dst c s = c then iprop((∃ f, yPts c s f) ∗ oPts c c (outFull m ρ c)) else cred (tallyAt (sendCell c s) () N)

/-- Slots before `n` done, those from `n` on to be done. -/
def Slots (c : Dev nD) (n : ℕ) : sProp 𝕄 :=
  iprop(Owe c (owedSlots c n) ∗ bigSep (fromS n) (Pre c) ∗ bigSep (uptoS n) (Post m ρ c))
/-- The same with slot `s` taken out. -/
def Rest (c : Dev nD) (s : Fin 16) : sProp 𝕄 :=
  iprop(Owe c (owedSlots c s.val) ∗ bigSep (fromS (s.val + 1)) (Pre c) ∗ bigSep (uptoS s.val) (Post m ρ c))
/-- Slot `s` filled. -/
def Stored (c : Dev nD) (s : Fin 16) : sProp 𝕄 :=
  iprop((∃ f, ⌜(yM.access (yRect s)).read (Elt F) f = yv m ρ c s⌝ ∗ yPts c s f) ∗ Res c s ∗ Rest m ρ c s)
/-- Slot `s` filled and, if it is the device's own block, stored. -/
def Owned (c : Dev nD) (s : Fin 16) : sProp 𝕄 :=
  iprop((if dst c s = c then Post m ρ c s else iprop((∃ f, ⌜(yM.access (yRect s)).read (Elt F) f = yv m ρ c s⌝ ∗ yPts c s f) ∗ Res c s)) ∗ Rest m ρ c s)

/-- The next slot is taken out of the family, -/
theorem slots_open (c : Dev nD) (s : Fin 16) : Slots m ρ c s.val ⊢ iprop(Pre c s ∗ Rest m ρ c s) := by
  unfold Slots Rest
  rw [fromS_succ s rfl, bigSep_ins (not_mem_fromS s rfl)]
  iintro ⟨HO, ⟨H1, H2⟩, H3⟩
  isplitl [H1]; · iexact H1
  isplitl [HO]; · iexact HO
  isplitl [H2] <;> iassumption

/-- with what its send owes, -/
theorem owedSlots_succ (c : Dev nD) (s : Fin 16) : owedSlots c s.val = owedSlots c (s.val + 1) + slotOwe c s := by
  unfold owedSlots; rw [fromS_succ s rfl, Finset.sum_insert (not_mem_fromS s rfl), add_comm]

/-- and put back when it is done. -/
theorem slots_close (c : Dev nD) (s : Fin 16) :
    iprop(Owe c (owedSlots c (s.val + 1)) ∗ Post m ρ c s ∗ bigSep (fromS (s.val + 1)) (Pre c) ∗ bigSep (uptoS s.val) (Post m ρ c)) ⊢ Slots m ρ c (s.val + 1) := by
  unfold Slots
  rw [uptoS_succ s rfl, bigSep_ins (not_mem_uptoS s rfl)]
  iintro ⟨HO, H1, H2, H3⟩
  isplitl [HO]; · iexact HO
  isplitl [H2]; · iexact H2
  isplitl [H1] <;> iassumption

/-- Reading a slot for nothing, then filling it. -/
theorem wp_fill (c : Dev nD) (s : Fin 16) {n : ℕ} (hn : n = s.val) {α : Type} {Q : α → sProp 𝕄} {k : PUnit → Code F α}
    {off : Fin 3 → ℕ} (hoff : off = ![s.val, 0, 0]) {inb : ∀ a, off a + S1x128x128.size a ≤ S16x128x128.size a}
    {w : FVec F S1x128x128 .bf16} (hw : w = yv m ρ c s) {hl : _} {h1 : _} {h2 : _} :
    Slots m ρ c n
      ⊢ iprop((Stored m ρ c s -∗ WP c (k ⟨⟩) Q)
          -∗ WP c (Prog.op (.load yM (Rect.unit (s := S16x128x128) off S1x128x128.size inb).toLoadRect hl) fun _ =>
              Prog.op (.store yM (Rect.unit (s := S16x128x128) off S1x128x128.size inb) w Finset.univ h1 h2) k) Q) := by
  subst hoff hw hn
  iintro HS
  ihave HS := (slots_open m ρ c s) $$ HS
  unfold Pre
  icases HS with ⟨⟨⟨%f, Hy⟩, Hres⟩, Hrest⟩
  iintro Hk
  iapply (wp_load_rect 𝒱₀ (c : Thread nD τ) none Set.univ (m := yM) (r := yRect s) (Eq.subset (View.set_slice_whole _ _))) $$ Hy
  iintro Hy
  iapply (wp_store 𝒱₀ (c : Thread nD τ) none Set.univ (m := yM) (r := yRect s) (Mk := Finset.univ) (Eq.subset ((View.setOn_univ _).trans (View.set_slice_whole _ _)))) $$ Hy
  iintro Hy
  iapply Hk
  unfold Stored
  isplitl [Hy]
  · iexists _; isplitr
    · ipureintro; exact View.read_write_univ (v := yM.access (yRect s)) (Val := Elt F) f _
    iexact Hy
  isplitl [Hres] <;> iassumption

/-- The branch that stores the device's own block. -/
theorem wp_own (c : Dev nD) (s : Fin 16) {α : Type} {Q : α → sProp 𝕄} {jp : Unit → Code F α}
    {cond : BitVec 1} (hc : cond = 1#1 ↔ dst c s = c)
    {off : Fin 3 → ℕ} (hoff : off = ![s.val, 0, 0]) {inb : ∀ a, off a + S1x128x128.size a ≤ S16x128x128.size a}
    {offo : Fin 2 → ℕ} (hoffo : offo = ![128 * c.val, 0]) {inbo : cond = 1#1 → ∀ a, offo a + S128x128.size a ≤ S2048x128.size a}
    {pay : Vec F S1x128x128 .bf16 → FVec F S128x128 .bf16} (hpay : ∀ v, pay v = shapeCast S128x128 v shapeCasts_S1x128x128_S128x128)
    {hl : _} {hl' : ∀ h, oM.view.LoadsAt (Rect.unit (s := S2048x128) offo S128x128.size (inbo h)).toLoadRect} {h1 : ∀ h, (oM.access (Rect.unit (s := S2048x128) offo S128x128.size (inbo h))).Stores Finset.univ} {h2 : ∀ h, Finset.univ = Finset.univ ∨ ∀ a, (Rect.unit (s := S2048x128) offo S128x128.size (inbo h)).stride a = 1} :
    Stored m ρ c s
      ⊢ iprop((Owned m ρ c s -∗ WP c (jp ()) Q)
          -∗ WP c (if h : cond = 1#1 then
              Prog.op (.load yM (Rect.unit (s := S16x128x128) off S1x128x128.size inb).toLoadRect hl) fun v =>
              Prog.op (.load oM (Rect.unit (s := S2048x128) offo S128x128.size (inbo h)).toLoadRect (hl' h)) fun _ =>
              Prog.op (.store oM (Rect.unit (s := S2048x128) offo S128x128.size (inbo h)) (pay v) Finset.univ (h1 h) (h2 h)) fun _ => jp ()
            else jp ()) Q) := by
  subst hoff hoffo
  unfold Stored Owned
  iintro ⟨⟨%f, %hf, Hy⟩, Hres, Hrest⟩
  iintro Hk
  by_cases h : cond = 1#1
  · have hd := hc.mp h
    rw [dif_pos h, if_pos hd]
    unfold Res Post
    rw [if_pos hd, hd]
    icases Hres with ⟨⟨%g, Ho⟩, -, -⟩
    iapply (wp_load_rect 𝒱₀ (c : Thread nD τ) none Set.univ (m := yM) (r := yRect s) (Eq.subset (View.set_slice_whole _ _))) $$ Hy
    iintro Hy
    iapply (wp_load_rect 𝒱₀ (c : Thread nD τ) none Set.univ (m := oM) (r := oRect c) (Eq.subset (View.set_slice_whole _ _))) $$ Ho
    iintro Ho
    iapply (wp_store 𝒱₀ (c : Thread nD τ) none Set.univ (m := oM) (r := oRect c) (Mk := Finset.univ) (Eq.subset ((View.setOn_univ _).trans (View.set_slice_whole _ _)))) $$ Ho
    iintro Ho
    iapply Hk
    isplitr [Hrest]
    · isplitl [Hy]; · iexists f; iexact Hy
      have hw : pay ((yM.access (yRect s)).read (Elt F) f) = oBlk m ρ c c := by
        rw [hpay, hf]; unfold oBlk
        rw [show slotOf c c = s from by rw [← slotOf_dst c s, hd]]
      rw [hw]
      iapply (Entails.of_eq (pointsTo_congr (oRows_landed m ρ c c g))) $$ Ho
    iexact Hrest
  · have hd : dst c s ≠ c := fun e => h (hc.mpr e)
    rw [dif_neg h, if_neg hd]
    iapply Hk
    isplitr [Hrest]
    · isplitl [Hy]
      · iexists f; isplitr; · (ipureintro; exact hf)
        iexact Hy
      iexact Hres
    iexact Hrest

attribute [local irreducible] outFull yv oBlk

/-- Copying a sender's rows pays one block. -/
theorem oRows_amount (p : Fin 16) (q : DmaSem sig) : (oRows p).view.amount (.dma q) = N := rfl

/-- Sending the block of slot `s` to the device it is for. -/
theorem wp_sendOne (K : Dev nD × CK → ℕ) (c : Dev nD) (s : Fin 16) (hd : dst c s ≠ c) {α : Type} {Q : α → sProp 𝕄} {k : PUnit → Code F α}
    {f : Buf (Elt F) ((c : Thread nD τ).loc cc0_scratch1)} (hf : (yM.access (yRect s)).read (Elt F) f = yv m ρ c s)
    {g : Buf (Elt F) ((dst c s : Thread nD τ).loc cc0_stg1_0)} {W : Waits sig Unit}
    {h0 : (oRows c).view.ref.isScScratch = false} {h1 : (ySlot s).view.WordExact} {h2 : (oRows c).view.WordExact}
    {h3 : DmaTarget.Typed .vmem (.dma (recvQ c)) (.remote (dst c s : Thread nD τ) (oRows c) (.dma (sendQ s)) h0)} :
    iprop(ctx m ρ K ∗ yPts c s f ∗ oPts (dst c s) c g ∗ owes (c : Thread nD τ) (owedSlots c s.val) W
        ∗ dutyTok ER (recvCell (dst c s) c) 0 c ∗ dutyTok ER (sendCell c s) 0 c)
      ⊢ iprop((iprop(cred (tallyAt (sendCell c s) () N) ∗ owes (c : Thread nD τ) (owedSlots c (s.val + 1)) W) -∗ WP c (k ⟨⟩) Q)
          -∗ WP c (Prog.op (.enqueueDma (ySlot s) (.remote (dst c s : Thread nD τ) (oRows c) (.dma (sendQ s)) h0) (.dma (recvQ c)) h1 h2 h3) k) Q) := by
  have hO : owedSlots c s.val = owedSlots c (s.val + 1) + tallyAt (recvCell (dst c s) c) () N :=
    (owedSlots_succ c s).trans (congrArg (owedSlots c (s.val + 1) + ·) (show slotOwe c s = _ by unfold slotOwe; rw [if_neg hd]))
  have hd1 : c ∈ (ringRd m ρ).duties (sendCell c s) 0 := by rw [duties_send, if_neg hd]; exact Finset.mem_singleton_self _
  have hd2 : c ∈ (ringRd m ρ).duties (recvCell (dst c s) c) 0 := by rw [duties_recv, if_neg (Ne.symm hd)]; exact Finset.mem_singleton_self _
  have hp1 : (((ySlot s).view.loc (c : Thread nD τ)) ↦[(ySlot s).view.set]{fullShare} f : sProp 𝕄) ⊢ (ringRd m ρ).payload (sendCell c s) 0 c := by
    rw [payload_send]; unfold sendPay; rw [ySlot_set]; iintro H; iexists f; iexact H
  have hp2 : (((oRows c).view.loc (dst c s : Thread nD τ)) ↦[(oRows c).view.set]{fullShare}
      ((oRows c).view.write (Elt F) g ((ySlot s).view.read (Elt F) f) Finset.univ) : sProp 𝕄) ⊢ (ringRd m ρ).payload (recvCell (dst c s) c) 0 c := by
    rw [payload_recv]; unfold recvPay
    rw [ySlot_read, hf, oRows_set]
    have hw : shapeCast S128x128 (yv m ρ c s) shapeCasts_S1x128x128_S128x128 = oBlk m ρ c (dst c s) := by unfold oBlk; rw [slotOf_dst]
    rw [hw]
    exact Entails.of_eq (pointsTo_congr (oRows_landed m ρ (dst c s) c g))
  refine BIBase.Entails.trans ?_ (Rounds.wp_send_pointsTo (defs := defs₀ (F := F)) (Γ := .empty) 𝒱₀ ER (ringRd m ρ) (c : Thread nD τ) none
    (κ₁ := K (c, .inr (.inl s))) (κ₂ := K (dst c s, .inr (.inr c)))
    (r₁ := 0) (r₂ := 0) (d₁ := c) (d₂ := c) (fd := g) (fs := f) (q := fullShare) (src := ySlot s) (dst := oRows c) (sS := .dma (sendQ s))
    (sem := .dma (recvQ c)) (c' := (dst c s : Thread nD τ)) (k := k) (Q := Q) (hsc := h0) (hsrc := h1) (hdst := h2) (hsem := h3) (Es := Set.univ) hd1 hd2
    () () N (oRows_amount c _) (amount_dma m ρ c _ c) (amount_dma m ρ (dst c s) _ c) (owedSlots c (s.val + 1)) hO (W := W) hp1 hp2)
  iintro ⟨#HC, Hy, Ho, HO, Ht1, Ht2⟩
  isplitr; · iapply (ctx_inv (F := F) m ρ K (c, .inr (.inl s))) $$ HC
  isplitr; · iapply (ctx_inv (F := F) m ρ K (dst c s, .inr (.inr c))) $$ HC
  isplitl [Hy]; · rw [ySlot_set]; iexact Hy
  isplitl [Ho]; · rw [oRows_set]; iexact Ho
  isplitl [HO]; · iexact HO
  isplitl [Ht2]; · iexact Ht2
  isplitr; · iapply (ctx_reached (F := F) m ρ K (c, .inr (.inl s))) $$ HC
  isplitl [Ht1]; · iexact Ht1
  iapply (ctx_reached (F := F) m ρ K (dst c s, .inr (.inr c))) $$ HC

/-- The branch that sends the block of slot `s`. -/
theorem wp_sendSlot (K : Dev nD × CK → ℕ) (c : Dev nD) (s : Fin 16) {n' : ℕ} (hn' : n' = s.val + 1) {α : Type} {Q : α → sProp 𝕄} {jp : Unit → Code F α}
    {cond : BitVec 1} (hc : cond = 1#1 ↔ dst c s ≠ c)
    {dv : cond = 1#1 → Dev nD} (hdv : ∀ h, dv h = dst c s)
    {src : Memref sig .tc .vmem S128x128 .bf16} (hsrc : src = ySlot s)
    {tgt : cond = 1#1 → Memref sig .tc .vmem S128x128 .bf16} (htgt : ∀ h, tgt h = oRows c)
    {sS : DmaSem sig} (hsS : sS = sendQ s) {sR : cond = 1#1 → DmaSem sig} (hsR : ∀ h, sR h = recvQ c)
    {h0 : ∀ h, (tgt h).view.ref.isScScratch = false} {h1 : cond = 1#1 → src.view.WordExact} {h2 : ∀ h, (tgt h).view.WordExact}
    {h3 : ∀ h, DmaTarget.Typed .vmem (.dma (sR h)) (.remote (dv h : Thread nD τ) (tgt h) (.dma sS) (h0 h))} :
    iprop(ctx m ρ K ∗ Owned m ρ c s)
      ⊢ iprop((Slots m ρ c n' -∗ WP c (jp ()) Q)
          -∗ WP c (if h : cond = 1#1 then
              Prog.op (.enqueueDma src (.remote (dv h : Thread nD τ) (tgt h) (.dma sS) (h0 h)) (.dma (sR h)) (h1 h) (h2 h) (h3 h)) fun _ => jp ()
            else jp ()) Q) := by
  subst hn' hsrc hsS
  unfold Owned
  by_cases h : cond = 1#1
  · have hd := hc.mp h
    rw [dif_pos h, if_neg hd]
    generalize h0 h = h0
    generalize h1 h = h1
    generalize h2 h = h2
    generalize h3 h = h3
    revert h0 h1 h2 h3
    rw [hdv h, htgt h, hsR h]
    intro h0 h1 h2 h3
    unfold Res Rest Owe
    iintro ⟨#HC, ⟨⟨%f, %hf, Hy⟩, ⟨%g, Ho⟩, Ht1, Ht2⟩, ⟨%W, HO⟩, Hfrom, Hupto⟩
    iintro Hk
    iapply (wp_sendOne (F := F) m ρ K c s hd hf (g := g)) $$ [Hy Ho HO Ht1 Ht2]
    · isplitr; · iexact HC
      isplitl [Hy]; · iexact Hy
      isplitl [Ho]; · iexact Ho
      isplitl [HO]; · iexact HO
      isplitl [Ht1] <;> iassumption
    iintro ⟨Hcr, HO⟩
    iapply Hk
    iapply (slots_close m ρ c s);
    isplitl [HO]; · unfold Owe; iexists W; iexact HO
    isplitl [Hcr]; · unfold Post; rw [if_neg hd]; iexact Hcr
    isplitl [Hfrom] <;> iassumption
  · have hd : dst c s = c := by by_contra e; exact h (hc.mpr e)
    rw [dif_neg h, if_pos hd]
    unfold Rest Owe
    iintro ⟨#HC, HP, ⟨%W, HO⟩, Hfrom, Hupto⟩
    iintro Hk
    iapply Hk
    iapply (slots_close m ρ c s);
    isplitl [HO]
    · unfold Owe; iexists W
      rw [owedSlots_succ]; unfold slotOwe; rw [if_pos hd, add_zero]; iexact HO
    isplitl [HP]; · iexact HP
    isplitl [Hfrom] <;> iassumption

/-! ## Loads of column chunks -/

/-- Half `k` of the double buffer of device `c`, at contents `f`. -/
abbrev wPts (c : Dev nD) (k : Fin 2) (f : Buf (Elt F) ((c : Thread nD τ).loc cc0_scratch0)) : sProp 𝕄 :=
  ((c : Thread nD τ).loc cc0_scratch0) ↦[(wRect k).set]{fullShare} f
/-- Device `c`'s copy of `w`, whole. -/
abbrev aAll (c : Dev nD) : sProp 𝕄 := ((c : Thread nD τ).loc main_arg1) ↦{fullShare} (wAll m c)

/-- The credit of one chunk. -/
abbrev NW : ℕ := (wHalf 0).view.dmaCredit
/-- A chunk's credit is not zero. -/
theorem NW_pos : 0 < NW := View.dmaCredit_pos _ (by decide)

/-- A half with no copy under way. -/
def LIdle (c : Dev nD) (k : Fin 2) : sProp 𝕄 := iprop((∃ f, wPts (F := F) c k f) ∗ semVal (loadCell c k) 0)
/-- Chunk `j` on its way into half `k`; the rest of `w` stays in hand. -/
def InFlight (c : Dev nD) (k : Fin 2) (j : Fin 8) : sProp 𝕄 :=
  iprop((∃ fd, Transfers.Flight countersEmb (c : Thread nD τ) (.dma (loadQ k)) () NW
      iprop((((c : Thread nD τ).loc cc0_scratch0) ↦[(wRect k).set]{fullShare} ((wHalf k).view.write (Elt F) fd ((aCols j).view.read (Elt F) (wAll m c)) Finset.univ))
        ∗ (((c : Thread nD τ).loc main_arg1) ↦[(aRect j).set]{fullShare} (wAll m c))))
    ∗ (((c : Thread nD τ).loc main_arg1) ↦[Finset.univ \ (aRect j).set]{fullShare} (wAll m c)))
/-- Chunk `j` in half `k`. -/
def LDone (c : Dev nD) (k : Fin 2) (j : Fin 8) : sProp 𝕄 :=
  iprop((∃ f, ⌜(wM.access (wRect k)).read (Elt F) f = wChunk m c j⌝ ∗ wPts c k f) ∗ semVal (loadCell c k) 0)

/-- Starting the copy of chunk `j` into half `k`. -/
theorem wp_start (c : Dev nD) (k : Fin 2) (j : Fin 8) {α : Type} {Q : α → sProp 𝕄} {kk : PUnit → Code F α}
    {src : Memref sig .tc .hbm S2048x256 .f32} (hsrc : src = aCols j) {tgt : Memref sig .tc .vmem S2048x256 .f32} (htgt : tgt = wHalf k)
    {q : DmaSem sig} (hq : q = loadQ k) {h1 : src.view.WordExact} {h2 : tgt.view.WordExact} {h3 : DmaTarget.Typed .hbm (.dma q) (.here tgt : DmaTarget nD τ sig Proc.tc .vmem S2048x256 .f32)} :
    iprop(LIdle (F := F) c k ∗ aAll m c)
      ⊢ iprop((InFlight m c k j -∗ WP c (kk ⟨⟩) Q) -∗ WP c (Prog.op (.enqueueDma src (.here tgt) (.dma q) h1 h2 h3) kk) Q) := by
  subst hsrc htgt hq
  have hS : (aCols j).view.set ⊆ Finset.univ := Finset.subset_univ _
  unfold LIdle
  iintro ⟨⟨⟨%f, Hw⟩, Hz⟩, Ha⟩
  ihave Ha := (pointsTo_split_subset (ℓ := (c : Thread nD τ).loc main_arg1) (Finset.subset_univ (aRect j).set)).1 $$ Ha
  icases Ha with ⟨Ha, Har⟩
  iintro Hk
  iapply (Transfers.wp_dmaLocal (defs := defs₀ (F := F)) countersEmb 𝒱₀ (c : Thread nD τ) none (src := aCols j) (dst := wHalf k) (sm := .dma (loadQ k))
    (q := fullShare) (fs := wAll m c) (fd := f) (Sd := (wRect k).set) () NW rfl NW_pos (wHalf_set k).subset) $$ [Hw Hz Ha]
  · isplitl [Ha]; · rw [aCols_set]; iexact Ha
    isplitl [Hw]; · iexact Hw
    iexact Hz
  iintro Hf
  iapply Hk
  unfold InFlight
  isplitl [Hf]
  · iexists f
    rw [aCols_set]; iexact Hf
  iexact Har

/-- Waiting for it. -/
theorem wp_landed (K : Dev nD × CK → ℕ) (c : Dev nD) (k : Fin 2) (j : Fin 8) (n : ℕ) {α : Type} {Q : α → sProp 𝕄} {kk : PUnit → Code F α}
    {src : Memref sig .tc .hbm S2048x256 .f32} {tgt : Memref sig .tc .vmem S2048x256 .f32} (htgt : tgt = wHalf k)
    {q : DmaSem sig} (hq : q = loadQ k) {h1 : src.view.WordExact} {h2 : tgt.view.WordExact} :
    iprop(ctx m ρ K ∗ InFlight m c k j ∗ Slots m ρ c n)
      ⊢ iprop((iprop(LDone m c k j ∗ aAll m c ∗ Slots m ρ c n) -∗ WP c (kk ⟨⟩) Q) -∗ WP c (Prog.op (.waitDma2 q src tgt h1 h2) kk) Q) := by
  subst htgt hq
  unfold InFlight Slots Owe
  iintro ⟨#HC, ⟨⟨%fd, Hf⟩, Har⟩, ⟨%W, HO⟩, Hs⟩
  iintro Hk
  iapply (Transfers.wp_waitLocalO (defs := defs₀ (F := F)) countersEmb 𝒱₀ (c : Thread nD τ) none (sem := loadQ k) (srcw := src) (dstw := wHalf k) (hsrc := h1) (hdst := h2) (k := kk) (Q := Q) () (N := NW) rfl (O := owedSlots c n) (W := W)) $$ [Hf HO]
  · isplitl [Hf]; · iexact Hf
    isplitl [HO]; · iexact HO
    iapply (ctx_wait_load (F := F) m ρ K c k n) $$ HC
  iintro ⟨⟨Hw, Ha⟩, Hz, HO⟩
  iapply Hk
  isplitl [Hw Hz]
  · unfold LDone
    isplitl [Hw]
    · iexists _; isplitr; · (ipureintro; exact wHalf_landed m c k j fd)
      iexact Hw
    iexact Hz
  isplitl [Ha Har]
  · iapply (pointsTo_split_subset (ℓ := (c : Thread nD τ).loc main_arg1) (Finset.subset_univ (aRect j).set)).2
    isplitl [Ha] <;> iassumption
  isplitl [HO]; · iexists _; iexact HO
  iexact Hs

/-- Reading the chunk; the half is free again. -/
theorem wp_chunk (c : Dev nD) (k : Fin 2) (j : Fin 8) {α : Type} {Q : α → sProp 𝕄} {kk : Vec F S1x2048x256 .f32 → Code F α}
    {off : Fin 3 → ℕ} (hoff : off = ![k.val, 0, 0]) {inb : ∀ a, off a + S1x2048x256.size a ≤ S2x2048x256.size a} {hl : _} :
    LDone m c k j
      ⊢ iprop((LIdle (F := F) c k -∗ WP c (kk (wChunk m c j)) Q)
          -∗ WP c (Prog.op (.load wM (Rect.unit (s := S2x2048x256) off S1x2048x256.size inb).toLoadRect hl) kk) Q) := by
  subst hoff
  unfold LDone LIdle
  iintro ⟨⟨%f, %hf, Hw⟩, Hz⟩
  rw [← hf]
  iintro Hk
  iapply (wp_load_rect 𝒱₀ (c : Thread nD τ) none Set.univ (m := wM) (r := wRect k) ((View.set_slice_whole _ _).subset)) $$ Hw
  iintro Hw
  iapply Hk
  isplitl [Hw]; · iexists f; iexact Hw
  iexact Hz

/-! ## Receive waits and send waits -/

/-- Before the wait for sender `s`: the credit, if that is another device, and the place in the cell's rounds. -/
def RPre (c : Dev nD) (s : Fin 16) : sProp 𝕄 :=
  iprop((if s = c then iprop(emp) else cred (tallyAt (recvCell c s) () N)) ∗ atPos ER (recvCell c s) 0 ∅ 0)
/-- After it: the semaphore at zero, and the sender's rows filled. -/
def RPost (c : Dev nD) (s : Fin 16) : sProp 𝕄 :=
  iprop(semVal (recvCell c s) 0 ∗ (if s = c then iprop(emp) else oPts c s (outFull m ρ c)))
/-- The receive waits before `n` done, those from `n` on to be done. -/
def Recvs (c : Dev nD) (n : ℕ) : sProp 𝕄 :=
  iprop(Owe c 0 ∗ bigSep (fromS n) (RPre c) ∗ bigSep (uptoS n) (RPost m ρ c))

/-- The wait for the block of sender `s`. -/
theorem wp_recv (K : Dev nD × CK → ℕ) (c : Dev nD) (s : Fin 16) {n n' : ℕ} (hn : n = s.val) (hn' : n' = s.val + 1)
    {α : Type} {Q : α → sProp 𝕄} {jp : Unit → Code F α}
    {cond : BitVec 1} (hc : cond = 1#1 ↔ s ≠ c) {q : DmaSem sig} (hq : q = recvQ s)
    {src : Memref sig .tc .vmem S128x128 .bf16} {tgt : Memref sig .tc .vmem S128x128 .bf16} (htgt : tgt = oRows s)
    {h1 : src.view.WordExact} {h2 : tgt.view.WordExact} :
    iprop(ctx m ρ K ∗ Recvs m ρ c n)
      ⊢ iprop((Recvs m ρ c n' -∗ WP c (jp ()) Q)
          -∗ WP c (if h : cond = 1#1 then Prog.op (.waitDma2 q src tgt h1 h2) fun _ => jp () else jp ()) Q) := by
  subst htgt hq hn hn'
  unfold Recvs
  rw [fromS_succ s rfl, uptoS_succ s rfl, bigSep_ins (not_mem_fromS s rfl), bigSep_ins (not_mem_uptoS s rfl)]
  by_cases h : cond = 1#1
  · have hd := hc.mp h
    rw [dif_pos h]
    unfold RPre RPost Owe
    rw [if_neg hd, if_neg hd]
    iintro ⟨#HC, ⟨%W, HO⟩, ⟨⟨Hcr, Hat⟩, Hfrom⟩, Hupto⟩
    iintro Hk
    iapply (Rounds.wp_wait_rest_token 𝒱₀ ER (ringRd m ρ) (c : Thread nD τ) none (κ := K (c, .inr (.inr s)))
      (wpE_waitDma2_eq 𝒱₀ (c : Thread nD τ) none Set.univ) (Set.mem_univ _) () (O := 0) (W := W) (R := 0) (m := 0) (T := ∅)
      (by rw [expect_recv m ρ c s hd, zero_add])) $$ [Hcr HO Hat]
    · isplitr; · iapply (ctx_inv (F := F) m ρ K (c, .inr (.inr s))) $$ HC
      isplitl [Hcr]; · iexact Hcr
      isplitl [HO]; · iexact HO
      isplitr; · rw [MayWait_zero]; iempintro
      iexact Hat
    iintro ⟨HO, Hat, -, Hpay⟩
    ihave Hp := (Entails.of_eq (rest_recv m ρ c s hd)) $$ Hpay
    imod (Rounds.cell_close ER (ringRd m ρ) (Set.mem_univ (K (c, .inr (.inr s)))) (fun h => h) (R := 0 + 1) (duties_later m ρ (recvCell c s))) $$ [Hat] with Hz
    · isplitr; · iapply (ctx_inv (F := F) m ρ K (c, .inr (.inr s))) $$ HC
      iexact Hat
    iapply Hk
    isplitl [HO]; · iexists _; iexact HO
    isplitl [Hfrom]; · iexact Hfrom
    isplitl [Hz Hp]
    · isplitl [Hz]; · iexact Hz
      unfold recvPay; iexact Hp
    iexact Hupto
  · have hd : s = c := by by_contra e; exact h (hc.mpr e)
    have hD : ∀ r, 0 ≤ r → (ringRd (F := F) m ρ).duties (recvCell c s) r = ∅ := fun r _ => by
      rcases Nat.eq_zero_or_pos r with rfl | hr
      · rw [duties_recv, if_pos hd]
      · exact duties_later m ρ _ r hr
    rw [dif_neg h]
    unfold RPre RPost
    rw [if_pos hd, if_pos hd]
    iintro ⟨#HC, HO, ⟨⟨-, Hat⟩, Hfrom⟩, Hupto⟩
    iintro Hk
    imod (Rounds.cell_close ER (ringRd m ρ) (Set.mem_univ (K (c, .inr (.inr s)))) (fun h => h) (R := 0) hD) $$ [Hat] with Hz
    · isplitr; · iapply (ctx_inv (F := F) m ρ K (c, .inr (.inr s))) $$ HC
      iexact Hat
    iapply Hk
    isplitl [HO]; · iexact HO
    isplitl [Hfrom]; · iexact Hfrom
    isplitl [Hz]
    · isplitl [Hz]; · iexact Hz
      iempintro
    iexact Hupto

/-- Before the wait for the send of slot `s`: the slot as the steps left it, and the place in the cell's rounds. -/
def SPre (c : Dev nD) (s : Fin 16) : sProp 𝕄 := iprop(Post m ρ c s ∗ atPos ER (sendCell c s) 0 ∅ 0)
/-- After it: the semaphore at zero, the slot, and the device's own rows if the slot was for them. -/
def SPost (c : Dev nD) (s : Fin 16) : sProp 𝕄 :=
  iprop(semVal (sendCell c s) 0 ∗ (∃ f, yPts (F := F) c s f) ∗ (if dst c s = c then oPts c c (outFull m ρ c) else iprop(emp)))
/-- The send waits before `n` done, those from `n` on to be done. -/
def Sends (c : Dev nD) (n : ℕ) : sProp 𝕄 :=
  iprop(Owe c 0 ∗ bigSep (fromS n) (SPre m ρ c) ∗ bigSep (uptoS n) (SPost m ρ c))

/-- Copying a slot pays one block. -/
theorem ySlot_credit (s : Fin 16) : (ySlot s).view.dmaCredit = N := rfl

/-- The wait for the send of slot `s`. -/
theorem wp_sent (K : Dev nD × CK → ℕ) (c : Dev nD) (s : Fin 16) {n n' : ℕ} (hn : n = s.val) (hn' : n' = s.val + 1)
    {α : Type} {Q : α → sProp 𝕄} {jp : Unit → Code F α}
    {cond : BitVec 1} (hc : cond = 1#1 ↔ dst c s ≠ c) {q : DmaSem sig} (hq : q = sendQ s)
    {src : cond = 1#1 → Memref sig .tc .vmem S128x128 .bf16} {tgt : Memref sig .tc .vmem S128x128 .bf16} (htgt : tgt = ySlot s)
    {h1 : ∀ h, (src h).view.WordExact} {h2 : cond = 1#1 → tgt.view.WordExact} :
    iprop(ctx m ρ K ∗ Sends m ρ c n)
      ⊢ iprop((Sends m ρ c n' -∗ WP c (jp ()) Q)
          -∗ WP c (if h : cond = 1#1 then Prog.op (.waitDma2 q (src h) tgt (h1 h) (h2 h)) fun _ => jp () else jp ()) Q) := by
  subst htgt hq hn hn'
  unfold Sends
  rw [fromS_succ s rfl, uptoS_succ s rfl, bigSep_ins (not_mem_fromS s rfl), bigSep_ins (not_mem_uptoS s rfl)]
  by_cases h : cond = 1#1
  · have hd := hc.mp h
    rw [dif_pos h]
    unfold SPre SPost Owe Post
    rw [if_neg hd, if_neg hd]
    iintro ⟨#HC, ⟨%W, HO⟩, ⟨⟨Hcr, Hat⟩, Hfrom⟩, Hupto⟩
    iintro Hk
    iapply (Rounds.wp_wait_rest_token 𝒱₀ ER (ringRd m ρ) (c : Thread nD τ) none (κ := K (c, .inr (.inl s)))
      (wpE_waitDma2_eq 𝒱₀ (c : Thread nD τ) none Set.univ) (Set.mem_univ _) () (O := 0) (W := W) (R := 0) (m := 0) (T := ∅)
      (by rw [expect_send m ρ c s hd, zero_add])) $$ [Hcr HO Hat]
    · isplitr; · iapply (ctx_inv (F := F) m ρ K (c, .inr (.inl s))) $$ HC
      isplitl [Hcr]; · iexact Hcr
      isplitl [HO]; · iexact HO
      isplitr; · rw [MayWait_zero]; iempintro
      iexact Hat
    iintro ⟨HO, Hat, -, Hpay⟩
    ihave Hp := (Entails.of_eq (rest_send m ρ c s hd)) $$ Hpay
    imod (Rounds.cell_close ER (ringRd m ρ) (Set.mem_univ (K (c, .inr (.inl s)))) (fun h => h) (R := 0 + 1) (duties_later m ρ (sendCell c s))) $$ [Hat] with Hz
    · isplitr; · iapply (ctx_inv (F := F) m ρ K (c, .inr (.inl s))) $$ HC
      iexact Hat
    iapply Hk
    isplitl [HO]; · iexists _; iexact HO
    isplitl [Hfrom]; · iexact Hfrom
    isplitl [Hz Hp]
    · isplitl [Hz]; · iexact Hz
      isplitl [Hp]; · unfold sendPay; iexact Hp
      iempintro
    iexact Hupto
  · have hd : dst c s = c := by by_contra e; exact h (hc.mpr e)
    have hD : ∀ r, 0 ≤ r → (ringRd (F := F) m ρ).duties (sendCell c s) r = ∅ := fun r _ => by
      rcases Nat.eq_zero_or_pos r with rfl | hr
      · rw [duties_send, if_pos hd]
      · exact duties_later m ρ _ r hr
    rw [dif_neg h]
    unfold SPre SPost
    rw [if_pos hd, show Post m ρ c s = _ from if_pos hd]
    iintro ⟨#HC, HO, ⟨⟨⟨Hy, Ho⟩, Hat⟩, Hfrom⟩, Hupto⟩
    iintro Hk
    imod (Rounds.cell_close ER (ringRd m ρ) (Set.mem_univ (K (c, .inr (.inl s)))) (fun h => h) (R := 0) hD) $$ [Hat] with Hz
    · isplitr; · iapply (ctx_inv (F := F) m ρ K (c, .inr (.inl s))) $$ HC
      iexact Hat
    iapply Hk
    isplitl [HO]; · iexact HO
    isplitl [Hfrom]; · iexact Hfrom
    isplitl [Hz Hy Ho]
    · isplitl [Hz]; · iexact Hz
      isplitl [Hy] <;> iassumption
    iexact Hupto

end Cert.KProof

end
-- ==== Proof.Facts.lean ====
/-
# Facts about the printed words, semaphores and slices

What the printed offsets, conditions, device numbers and payloads of the kernel are in the words of `Proto`.
-/
module

public import proofs.«01_k».proof.Proof.Steps

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Rows cut out of the result at a device's offset are the rows of that sender. -/
theorem slice_oRows (c : Dev nD) {off : Fin 2 → ℕ} (h : off = ![128 * c.val, 0]) {inb : ∀ a, off a + S128x128.size a ≤ S2048x128.size a} {hs} :
    (oM.slice (Rect.unit (s := S2048x128) off S128x128.size inb) hs : Memref sig .tc .vmem S128x128 .bf16) = oRows c := by subst h; rfl
/-- A receive semaphore cut out of the sixteen, -/
theorem slice_recv (c : Dev nD) {off : Fin 1 → ℕ} (h : off = ![c.val]) {inb : ∀ a, off a + S1.size a ≤ S16.size a} :
    (((cc0_scratch4 : DmaSems sig S16).slice (Rect.unit (s := S16) off S1.size inb)).squeeze S_ squeezes_S1_S_).sem = recvQ c := by
  subst h; decide +kernel +revert
/-- a send semaphore, -/
theorem slice_send (s : Fin 16) {off : Fin 1 → ℕ} (h : off = ![s.val]) {inb : ∀ a, off a + S1.size a ≤ S16.size a} :
    (((cc0_scratch3 : DmaSems sig S16).slice (Rect.unit (s := S16) off S1.size inb)).squeeze S_ squeezes_S1_S_).sem = sendQ s := by
  subst h; decide +kernel +revert
/-- a load semaphore. -/
theorem slice_load (k : Fin 2) {off : Fin 1 → ℕ} (h : off = ![k.val]) {inb : ∀ a, off a + S1.size a ≤ S2.size a} :
    (((cc0_scratch2 : DmaSems sig S2).slice (Rect.unit (s := S2) off S1.size inb)).squeeze S_ squeezes_S1_S_).sem = loadQ k := by
  subst h; decide +kernel +revert
/-- Columns cut out of `w` at a chunk's offset are that chunk. -/
theorem slice_aCols (j : Fin 8) {off : Fin 2 → ℕ} (h : off = ![0, 256 * j.val]) {inb : ∀ a, off a + S2048x256.size a ≤ S2048x2048.size a} {hs} :
    (aM.slice (Rect.unit (s := S2048x2048) off S2048x256.size inb) hs : Memref sig .tc .hbm S2048x256 .f32) = aCols j := by subst h; rfl

/-- What the words of slot `s` decide: the own store, the send, its target, and the wait for the send. -/
abbrev SlotFacts (s : Fin 16) (own send wait : Dev nD → BitVec 1) (dev : Dev nD → ℕ) : Prop :=
  ∀ c, (own c = 1#1 ↔ dst c s = c) ∧ (send c = 1#1 ↔ dst c s ≠ c) ∧ dev c = (dst c s).val ∧ (wait c = 1#1 ↔ dst c s ≠ c)

/-- What is decided of slot 0. -/
theorem slot0 : SlotFacts 0 k0_cond1 k0_cond2 k0_cond49 k0_dev16 := by decide +kernel
/-- What is decided of slot 1. -/
theorem slot1 : SlotFacts 1 k0_cond3 k0_cond4 k0_cond50 k0_dev17 := by decide +kernel
/-- What is decided of slot 2. -/
theorem slot2 : SlotFacts 2 k0_cond5 k0_cond6 k0_cond51 k0_dev18 := by decide +kernel
/-- What is decided of slot 3. -/
theorem slot3 : SlotFacts 3 k0_cond7 k0_cond8 k0_cond52 k0_dev19 := by decide +kernel
/-- What is decided of slot 4. -/
theorem slot4 : SlotFacts 4 k0_cond9 k0_cond10 k0_cond53 k0_dev20 := by decide +kernel
/-- What is decided of slot 5. -/
theorem slot5 : SlotFacts 5 k0_cond11 k0_cond12 k0_cond54 k0_dev21 := by decide +kernel
/-- What is decided of slot 6. -/
theorem slot6 : SlotFacts 6 k0_cond13 k0_cond14 k0_cond55 k0_dev22 := by decide +kernel
/-- What is decided of slot 7. -/
theorem slot7 : SlotFacts 7 k0_cond15 k0_cond16 k0_cond56 k0_dev23 := by decide +kernel
/-- What is decided of slot 8. -/
theorem slot8 : SlotFacts 8 k0_cond17 k0_cond18 k0_cond57 k0_dev24 := by decide +kernel
/-- What is decided of slot 9. -/
theorem slot9 : SlotFacts 9 k0_cond19 k0_cond20 k0_cond58 k0_dev25 := by decide +kernel
/-- What is decided of slot 10. -/
theorem slot10 : SlotFacts 10 k0_cond21 k0_cond22 k0_cond59 k0_dev26 := by decide +kernel
/-- What is decided of slot 11. -/
theorem slot11 : SlotFacts 11 k0_cond23 k0_cond24 k0_cond60 k0_dev27 := by decide +kernel
/-- What is decided of slot 12. -/
theorem slot12 : SlotFacts 12 k0_cond25 k0_cond26 k0_cond61 k0_dev28 := by decide +kernel
/-- What is decided of slot 13. -/
theorem slot13 : SlotFacts 13 k0_cond27 k0_cond28 k0_cond62 k0_dev29 := by decide +kernel
/-- What is decided of slot 14. -/
theorem slot14 : SlotFacts 14 k0_cond29 k0_cond30 k0_cond63 k0_dev30 := by decide +kernel
/-- What is decided of slot 15. -/
theorem slot15 : SlotFacts 15 k0_cond31 k0_cond32 k0_cond64 k0_dev31 := by decide +kernel

/-- Reading the device's number. -/
theorem wp_dev (c : Dev nD) {α : Type} {k : Dev nD → Code F α} {Q : α → sProp 𝕄} : WP c (k c) Q ⊢ WP c (Prog.op .deviceId k) Q := by
  unfold WP; rw [wp_deviceId]
/-- A part that has returned. -/
theorem wp_done (c : Dev nD) {α : Type} {a : α} {Q : α → sProp 𝕄} : Q a ⊢ WP (F := F) c (Prog.ret a) Q := by
  unfold WP; rw [wp_ret]; iintro H; imodintro; iexact H

/-- The device number as the kernel computes it. -/
abbrev vid (c : Dev nD) : BitVec 32 := Scalar.remsi (Scalar.divsi (Dev.word c) 1#32) 16#32

/-- The condition of the wait for sender `s`. -/
theorem recv_cond : ∀ (s : Fin 16) (c : Dev nD),
    Scalar.cmpi .ne (Scalar.extui (Scalar.cmpi .ne (vid c) (BitVec.ofNat 32 s.val))) 0#32 = 1#1 ↔ s ≠ c := by decide +kernel

/-- The first signal goes 1 step up the ring. -/
theorem dev1 (c : Dev nD) : (⟨k0_dev1 c, k0_dev1_lt c⟩ : Dev nD) = nbr c 1 := Fin.ext (k0_dev1_eq c)
/-- The second signal goes 2 steps up the ring. -/
theorem dev2 (c : Dev nD) : (⟨k0_dev2 c, k0_dev2_lt c⟩ : Dev nD) = nbr c 2 := Fin.ext (k0_dev2_eq c)
/-- The third signal goes 3 steps up the ring. -/
theorem dev3 (c : Dev nD) : (⟨k0_dev3 c, k0_dev3_lt c⟩ : Dev nD) = nbr c 3 := Fin.ext (k0_dev3_eq c)
/-- The fourth signal goes 4 steps up the ring. -/
theorem dev4 (c : Dev nD) : (⟨k0_dev4 c, k0_dev4_lt c⟩ : Dev nD) = nbr c 4 := Fin.ext (k0_dev4_eq c)
/-- The fifth signal goes 5 steps up the ring. -/
theorem dev5 (c : Dev nD) : (⟨k0_dev5 c, k0_dev5_lt c⟩ : Dev nD) = nbr c 5 := Fin.ext (k0_dev5_eq c)
/-- The sixth signal goes 6 steps up the ring. -/
theorem dev6 (c : Dev nD) : (⟨k0_dev6 c, k0_dev6_lt c⟩ : Dev nD) = nbr c 6 := Fin.ext (k0_dev6_eq c)
/-- The seventh signal goes 7 steps up the ring. -/
theorem dev7 (c : Dev nD) : (⟨k0_dev7 c, k0_dev7_lt c⟩ : Dev nD) = nbr c 7 := Fin.ext (k0_dev7_eq c)
/-- The eighth signal goes 8 steps up the ring. -/
theorem dev8 (c : Dev nD) : (⟨k0_dev8 c, k0_dev8_lt c⟩ : Dev nD) = nbr c 8 := Fin.ext (k0_dev8_eq c)
/-- The ninth signal goes 9 steps up the ring. -/
theorem dev9 (c : Dev nD) : (⟨k0_dev9 c, k0_dev9_lt c⟩ : Dev nD) = nbr c 9 := Fin.ext (k0_dev9_eq c)
/-- The tenth signal goes 10 steps up the ring. -/
theorem dev10 (c : Dev nD) : (⟨k0_dev10 c, k0_dev10_lt c⟩ : Dev nD) = nbr c 10 := Fin.ext (k0_dev10_eq c)
/-- The eleventh signal goes 11 steps up the ring. -/
theorem dev11 (c : Dev nD) : (⟨k0_dev11 c, k0_dev11_lt c⟩ : Dev nD) = nbr c 11 := Fin.ext (k0_dev11_eq c)
/-- The twelfth signal goes 12 steps up the ring. -/
theorem dev12 (c : Dev nD) : (⟨k0_dev12 c, k0_dev12_lt c⟩ : Dev nD) = nbr c 12 := Fin.ext (k0_dev12_eq c)
/-- The thirteenth signal goes 13 steps up the ring. -/
theorem dev13 (c : Dev nD) : (⟨k0_dev13 c, k0_dev13_lt c⟩ : Dev nD) = nbr c 13 := Fin.ext (k0_dev13_eq c)
/-- The fourteenth signal goes 14 steps up the ring. -/
theorem dev14 (c : Dev nD) : (⟨k0_dev14 c, k0_dev14_lt c⟩ : Dev nD) = nbr c 14 := Fin.ext (k0_dev14_eq c)
/-- The fifteenth signal goes 15 steps up the ring. -/
theorem dev15 (c : Dev nD) : (⟨k0_dev15 c, k0_dev15_lt c⟩ : Dev nD) = nbr c 15 := Fin.ext (k0_dev15_eq c)

variable (m : (ℓ : Loc nD τ sig) → Buf (Elt F) ℓ) (ρ : Dev nD → PrngReg)
variable (K : Dev nD × CK → ℕ)

/-- The device's block of `x`, rounded. -/
abbrev xb (c : Dev nD) : FVec F S128x2048 .bf16 := k0_pay1 (xstg m ρ c)
/-- Chunk `t` of `w`, in the order of device `c`. -/
abbrev wt (c : Dev nD) (t : ℕ) : Vec F S1x2048x256 .f32 := wChunk m c (ck c t)

/-- The left half of chunk `t` of results is the block of slot `2 t`, -/
theorem yv_even (c : Dev nD) (t : ℕ) {s : Fin 16} (hs : s.val = 2 * t) : k0_pay19 (k0_pay18 (xb m ρ c) (wt m c t)) = yv m ρ c s := by
  unfold yv yChunk
  rw [if_pos (by omega), show s.val / 2 = t by omega]
/-- the right half that of slot `2 t + 1`. -/
theorem yv_odd (c : Dev nD) (t : ℕ) {s : Fin 16} (hs : s.val = 2 * t + 1) : k0_pay21 (k0_pay18 (xb m ρ c) (wt m c t)) = yv m ρ c s := by
  unfold yv yChunk
  rw [if_neg (by omega), show s.val / 2 = t by omega]

/-- What is stored into slot 0 is its block. -/
theorem fill0 (c : Dev nD) : k0_pay6 (k0_pay2 (xb m ρ c) (wt m c 0)) (k0_pay3 (xb m ρ c) (wt m c 0)) (k0_pay4 (xb m ρ c) (wt m c 0)) = yv m ρ c 0 := yv_even m ρ c 0 rfl
/-- What is stored into slot 1 is its block. -/
theorem fill1 (c : Dev nD) : k0_pay8 (k0_pay2 (xb m ρ c) (wt m c 0)) (k0_pay3 (xb m ρ c) (wt m c 0)) (k0_pay4 (xb m ρ c) (wt m c 0)) = yv m ρ c 1 := yv_odd m ρ c 0 rfl
/-- What is stored into slot 2 is its block. -/
theorem fill2 (c : Dev nD) : k0_pay14 (k0_pay11 (xb m ρ c) (wt m c 1)) (k0_pay12 (xb m ρ c) (wt m c 1)) (FloatOps.ofBits .f32 0x3F800000#32) = yv m ρ c 2 := yv_even m ρ c 1 rfl
/-- What is stored into slot 3 is its block. -/
theorem fill3 (c : Dev nD) : k0_pay16 (k0_pay11 (xb m ρ c) (wt m c 1)) (k0_pay12 (xb m ρ c) (wt m c 1)) (FloatOps.ofBits .f32 0x3F800000#32) = yv m ρ c 3 := yv_odd m ρ c 1 rfl
/-- What is stored into slot 4 is its block. -/
theorem fill4 (c : Dev nD) : k0_pay19 (k0_pay18 (xb m ρ c) (wt m c 2)) = yv m ρ c 4 := yv_even m ρ c 2 rfl
/-- What is stored into slot 5 is its block. -/
theorem fill5 (c : Dev nD) : k0_pay21 (k0_pay18 (xb m ρ c) (wt m c 2)) = yv m ρ c 5 := yv_odd m ρ c 2 rfl
/-- What is stored into slot 6 is its block. -/
theorem fill6 (c : Dev nD) : k0_pay25 (k0_pay24 (xb m ρ c) (wt m c 3)) = yv m ρ c 6 := yv_even m ρ c 3 rfl
/-- What is stored into slot 7 is its block. -/
theorem fill7 (c : Dev nD) : k0_pay27 (k0_pay23 (xb m ρ c) (wt m c 3)) = yv m ρ c 7 := yv_odd m ρ c 3 rfl
/-- What is stored into slot 8 is its block. -/
theorem fill8 (c : Dev nD) : k0_pay30 (xb m ρ c) (wt m c 4) = yv m ρ c 8 := yv_even m ρ c 4 rfl
/-- What is stored into slot 9 is its block. -/
theorem fill9 (c : Dev nD) : k0_pay32 (k0_pay29 (xb m ρ c) (wt m c 4)) = yv m ρ c 9 := yv_odd m ρ c 4 rfl
/-- What is stored into slot 10 is its block. -/
theorem fill10 (c : Dev nD) : k0_pay35 (xb m ρ c) (wt m c 5) = yv m ρ c 10 := yv_even m ρ c 5 rfl
/-- What is stored into slot 11 is its block. -/
theorem fill11 (c : Dev nD) : k0_pay37 (k0_pay34 (xb m ρ c) (wt m c 5)) = yv m ρ c 11 := yv_odd m ρ c 5 rfl
/-- What is stored into slot 12 is its block. -/
theorem fill12 (c : Dev nD) : k0_pay40 (xb m ρ c) (wt m c 6) = yv m ρ c 12 := yv_even m ρ c 6 rfl
/-- What is stored into slot 13 is its block. -/
theorem fill13 (c : Dev nD) : k0_pay42 (k0_pay39 (xb m ρ c) (wt m c 6)) = yv m ρ c 13 := yv_odd m ρ c 6 rfl
/-- What is stored into slot 14 is its block. -/
theorem fill14 (c : Dev nD) : k0_pay48 (k0_pay44 (xb m ρ c) (wt m c 7)) (k0_pay45 (xb m ρ c) (wt m c 7)) (k0_pay46 (xb m ρ c) (wt m c 7)) = yv m ρ c 14 := yv_even m ρ c 7 rfl
/-- What is stored into slot 15 is its block. -/
theorem fill15 (c : Dev nD) : k0_pay50 (k0_pay44 (xb m ρ c) (wt m c 7)) (k0_pay45 (xb m ρ c) (wt m c 7)) (k0_pay46 (xb m ρ c) (wt m c 7)) = yv m ρ c 15 := yv_odd m ρ c 7 rfl

end Cert.KProof

end
-- ==== Proof.PartsA.lean ====
/-
# The parts of the kernel up to slot 7

One theorem per printed part: what a device holds before it and after it. A part that returns values says which they
are where a later part depends on them.
-/
module

public import proofs.«01_k».proof.Proof.Facts

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond17 k0_cond18 k0_cond19 k0_cond20 k0_cond21 k0_cond22 k0_cond23 k0_cond24 k0_cond25 k0_cond26 k0_cond27 k0_cond28 k0_cond29 k0_cond30 k0_cond31
  k0_cond32 k0_cond49 k0_cond50 k0_cond51 k0_cond52 k0_cond53 k0_cond54 k0_cond55 k0_cond56 k0_cond57 k0_cond58 k0_cond59 k0_cond60 k0_cond61 k0_cond62
  k0_cond63 k0_cond64 k0_dev1 k0_dev2 k0_dev3 k0_dev4 k0_dev5 k0_dev6 k0_dev7 k0_dev8 k0_dev9 k0_dev10 k0_dev11 k0_dev12 k0_dev13 k0_dev14 k0_dev15
  k0_dev16 k0_dev17 k0_dev18 k0_dev19 k0_dev20 k0_dev21 k0_dev22 k0_dev23 k0_dev24 k0_dev25 k0_dev26 k0_dev27 k0_dev28 k0_dev29 k0_dev30 k0_dev31
  k0_off1 k0_off2 k0_off3 k0_off4 k0_off5 k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29 k0_off30 k0_off31 k0_off32 k0_off33
  k0_off34 k0_off35 k0_off36 k0_off37 k0_off38 k0_off39 k0_off40 k0_off41 k0_off42 k0_off43 k0_off44 k0_off45 k0_off46 k0_off47 k0_off48 k0_off49
  k0_off50 k0_off51 k0_off52 k0_off53 k0_off54 k0_off55 k0_off56 k0_off57 k0_off58 k0_off59 k0_off60 k0_off61 k0_off62 k0_off63 k0_off64 k0_off65

variable (m : (ℓ : Loc nD τ sig) → Buf (Elt F) ℓ) (ρ : Dev nD → PrngReg)
variable (K : Dev nD × CK → ℕ)

/-- A whole buffer is loaded from offset zero. -/
theorem zero_off : (![0, 0] : Fin 2 → Nat) = fun _ => 0 := funext fun a => by fin_cases a <;> rfl
/-- The whole of the staging buffer is its contents. -/
theorem read_x (inb : ∀ a, (![0, 0] : Fin 2 → Nat) a + S128x2048.size a ≤ S128x2048.size a) (f : Vec F S128x2048 .f32) :
    xM.view.readAt (Elt F) (Rect.unit (s := S128x2048) ![0, 0] S128x2048.size inb).toLoadRect f = f :=
  Memref.readAt_unit_zero (Elt F) cc0_stg0_0 zero_off inb f
/-- Reading the device's block of `x`, whole. -/
theorem wp_x (c : Dev nD) {α : Type} {Q : α → sProp 𝕄} {k : Vec F S128x2048 .f32 → Code F α}
    {off : Fin 2 → ℕ} (hoff : off = ![0, 0]) {inb : ∀ a, off a + S128x2048.size a ≤ S128x2048.size a} {hl : _} :
    (((c : Thread nD τ).loc cc0_stg0_0) ↦{fullShare} (xstg m ρ c))
      ⊢ iprop(((((c : Thread nD τ).loc cc0_stg0_0) ↦{fullShare} (xstg m ρ c)) -∗ WP c (k (xstg m ρ c)) Q)
          -∗ WP c (Prog.op (.load xM (Rect.unit (s := S128x2048) off S128x2048.size inb).toLoadRect hl) k) Q) := by
  subst hoff
  iintro Hx
  iintro Hk
  iapply (wp_load 𝒱₀ (c : Thread nD τ) none Set.univ (m := xM) (Finset.subset_univ _)) $$ Hx
  iintro Hx
  rw [read_x]
  iapply Hk $$ Hx

/-- The device reads its number and signals its first four neighbours. -/
theorem part1 (c : Dev nD) {Q : _ → sProp 𝕄} :
    iprop(ctx m ρ K ∗ SigSt c 1)
      ⊢ iprop((∀ v3 v4, SigSt (F := F) c 5 -∗ Q ⟨c, vid c, v3, v4, SemArray.scalar (sig.barrier 0 rfl)⟩)
      -∗ WP c (k0_part1 xM (Memref.isWhole_whole _) aM (Memref.isWhole_whole _) oM (Memref.isWhole_whole _)
        wM (Memref.isWhole_whole _) yM (Memref.isWhole_whole _) cc0_scratch2 cc0_scratch3 cc0_scratch4) Q) := by
  rw [k0_part1_eq_skeleton]; unfold k0_part1_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_dev c)
  extract_lets
  iapply (wp_sig m ρ K c 1 (by decide) (n' := 2) rfl (dev1 c)) $$ [HS]
  · isplitr; · iexact HC
    iexact HS
  iintro HS
  iapply (wp_sig m ρ K c 2 (by decide) (n' := 3) rfl (dev2 c)) $$ [HS]
  · isplitr; · iexact HC
    iexact HS
  iintro HS
  iapply (wp_sig m ρ K c 3 (by decide) (n' := 4) rfl (dev3 c)) $$ [HS]
  · isplitr; · iexact HC
    iexact HS
  iintro HS
  iapply (wp_sig m ρ K c 4 (by decide) (n' := 5) rfl (dev4 c)) $$ [HS]
  · isplitr; · iexact HC
    iexact HS
  iintro HS
  iapply (wp_done c)
  iapply Hk
  iexact HS

/-- Six more signals. -/
theorem part2 (c : Dev nD) {v2 : BitVec 32} {Q : _ → sProp 𝕄} :
    iprop(ctx m ρ K ∗ SigSt c 5)
      ⊢ iprop((SigSt (F := F) c 11 -∗ Q ⟨⟩)
      -∗ WP c (k0_part2 xM (Memref.isWhole_whole _) aM (Memref.isWhole_whole _) oM (Memref.isWhole_whole _)
        wM (Memref.isWhole_whole _) yM (Memref.isWhole_whole _) cc0_scratch2 cc0_scratch3 cc0_scratch4 c v2 (SemArray.scalar (sig.barrier 0 rfl))) Q) := by
  rw [k0_part2_eq_skeleton]; unfold k0_part2_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_sig m ρ K c 5 (by decide) (n' := 6) rfl (dev5 c)) $$ [HS]
  · isplitr; · iexact HC
    iexact HS
  iintro HS
  iapply (wp_sig m ρ K c 6 (by decide) (n' := 7) rfl (dev6 c)) $$ [HS]
  · isplitr; · iexact HC
    iexact HS
  iintro HS
  iapply (wp_sig m ρ K c 7 (by decide) (n' := 8) rfl (dev7 c)) $$ [HS]
  · isplitr; · iexact HC
    iexact HS
  iintro HS
  iapply (wp_sig m ρ K c 8 (by decide) (n' := 9) rfl (dev8 c)) $$ [HS]
  · isplitr; · iexact HC
    iexact HS
  iintro HS
  iapply (wp_sig m ρ K c 9 (by decide) (n' := 10) rfl (dev9 c)) $$ [HS]
  · isplitr; · iexact HC
    iexact HS
  iintro HS
  iapply (wp_sig m ρ K c 10 (by decide) (n' := 11) rfl (dev10 c)) $$ [HS]
  · isplitr; · iexact HC
    iexact HS
  iintro HS
  iapply (wp_done c)
  iapply Hk
  iexact HS

/-- The last five signals, the entry wait and the device's block of `x`. -/
theorem part3 (c : Dev nD) {v2 v3 : BitVec 32} {Q : _ → sProp 𝕄} :
    iprop(ctx m ρ K ∗ SigSt c 11 ∗ cred (tallyAt (barCell c) () 15) ∗ atPos ER (barCell c) 0 ∅ 0 ∗ (((c : Thread nD τ).loc cc0_stg0_0) ↦{fullShare} (xstg m ρ c)))
      ⊢ iprop((iprop(Owe (F := F) c (owedSlots c 0) ∗ semVal (barCell c) 0 ∗ (bigSep (Finset.univ.erase c) fun p => barPay c p) ∗ (((c : Thread nD τ).loc cc0_stg0_0) ↦{fullShare} (xstg m ρ c))) -∗ Q (xb m ρ c))
      -∗ WP c (k0_part3 xM (Memref.isWhole_whole _) aM (Memref.isWhole_whole _) oM (Memref.isWhole_whole _)
        wM (Memref.isWhole_whole _) yM (Memref.isWhole_whole _) cc0_scratch2 cc0_scratch3 cc0_scratch4 c v2 v3 (SemArray.scalar (sig.barrier 0 rfl))) Q) := by
  rw [k0_part3_eq_skeleton]; unfold k0_part3_skel
  simp (config := {zetaHave := false}) only [semSignalWord, semWaitWord, Prog.lift, Prog.bind_op, Prog.bind_ret, Prog.pure_eq_ret, wp_deviceId]
  try extract_lets
  iintro ⟨#HC, HS, Hcr, Hat, Hx⟩
  iintro Hk
  iapply (wp_sig m ρ K c 11 (by decide) (n' := 12) rfl (dev11 c)) $$ [HS]
  · isplitr; · iexact HC
    iexact HS
  iintro HS
  iapply (wp_sig m ρ K c 12 (by decide) (n' := 13) rfl (dev12 c)) $$ [HS]
  · isplitr; · iexact HC
    iexact HS
  iintro HS
  iapply (wp_sig m ρ K c 13 (by decide) (n' := 14) rfl (dev13 c)) $$ [HS]
  · isplitr; · iexact HC
    iexact HS
  iintro HS
  iapply (wp_sig m ρ K c 14 (by decide) (n' := 15) rfl (dev14 c)) $$ [HS]
  · isplitr; · iexact HC
    iexact HS
  iintro HS
  iapply (wp_sig m ρ K c 15 (by decide) (n' := 16) rfl (dev15 c)) $$ [HS]
  · isplitr; · iexact HC
    iexact HS
  iintro HS
  iapply (wp_bar m ρ K c) $$ [HS Hcr Hat]
  · isplitr; · iexact HC
    isplitl [HS]; · iexact HS
    isplitl [Hcr] <;> iassumption
  iintro ⟨HO, Hz, Hp⟩
  iapply (wp_x m ρ c rfl) $$ Hx
  iintro Hx
  iapply (wp_done c)
  iapply Hk
  isplitl [HO]; · iexact HO
  isplitl [Hz]; · iexact Hz
  isplitl [Hp] <;> iassumption

/-- The first two loads are started, the first chunk read. -/
theorem part4 (c : Dev nD) {v3 : BitVec 32} {Q : _ → sProp 𝕄} :
    iprop(ctx m ρ K ∗ LIdle (F := F) c 0 ∗ LIdle (F := F) c 1 ∗ aAll m c ∗ Slots m ρ c 0)
      ⊢ iprop((∀ v78, iprop(LIdle (F := F) c 0 ∗ InFlight m c 1 (ck c 1) ∗ Slots m ρ c 0) -∗ Q ⟨v78, k0_pay2 (xb m ρ c) (wt m c 0), k0_pay3 (xb m ρ c) (wt m c 0), k0_pay4 (xb m ρ c) (wt m c 0)⟩)
      -∗ WP c (k0_part4 xM (Memref.isWhole_whole _) aM (Memref.isWhole_whole _) oM (Memref.isWhole_whole _)
        wM (Memref.isWhole_whole _) yM (Memref.isWhole_whole _) cc0_scratch2 cc0_scratch3 cc0_scratch4 c v3 (xb m ρ c)) Q) := by
  rw [k0_part4_eq_skeleton]; unfold k0_part4_skel
  simp (config := {zetaHave := false}) only [semSignalWord, semWaitWord, Prog.lift, Prog.bind_op, Prog.bind_ret, Prog.pure_eq_ret, wp_deviceId]
  try extract_lets
  iintro ⟨#HC, HI, HI1, HA, HS⟩
  iintro Hk
  iapply (wp_start m c 0 (ck c 0) (slice_aCols (ck c 0) (k0_off1_eq c 0)) rfl (slice_load 0 rfl)) $$ [HI HA]
  · isplitl [HI] <;> iassumption
  iintro HF
  iapply (wp_landed m ρ K c 0 (ck c 0) 0 rfl (slice_load 0 rfl)) $$ [HF HS]
  · isplitr; · iexact HC
    isplitl [HF] <;> iassumption
  iintro ⟨HD, HA, HS⟩
  iapply (wp_start m c 1 (ck c 1) (slice_aCols (ck c 1) (k0_off1_eq c 1)) rfl (slice_load 1 rfl)) $$ [HI1 HA]
  · isplitl [HI1] <;> iassumption
  iintro HF
  iapply (wp_chunk m c 0 (ck c 0) rfl) $$ HD
  iintro HI
  iapply (wp_done c)
  iapply Hk
  isplitl [HI]; · iexact HI
  isplitl [HF] <;> iassumption

/-- Slots 0 and 1. -/
theorem part5 (c : Dev nD) {v2 v4 v78 : BitVec 32} {x y z : FVec F S128x256 .f32} (h0 : k0_pay6 x y z = yv m ρ c 0) (h1 : k0_pay8 x y z = yv m ρ c 1)
    {Q : _ → sProp 𝕄} :
    iprop(ctx m ρ K ∗ Slots m ρ c 0)
      ⊢ iprop((∀ w, Slots m ρ c 2 -∗ Q w)
      -∗ WP c (k0_part5 xM (Memref.isWhole_whole _) aM (Memref.isWhole_whole _) oM (Memref.isWhole_whole _)
        wM (Memref.isWhole_whole _) yM (Memref.isWhole_whole _) cc0_scratch2 cc0_scratch3 cc0_scratch4 c v2 v4 v78 x y z) Q) := by
  rw [k0_part5_eq_skeleton]; unfold k0_part5_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_fill (n := 0) m ρ c 0 rfl rfl h0) $$ HS
  iintro HS
  iapply (wp_own m ρ c 0 (slot0 c).1 rfl (k0_off2_eq c) (pay := k0_pay7) fun _ => rfl) $$ HS
  iintro HS
  iapply (wp_sendSlot m ρ K c 0 (n' := 1) rfl (slot0 c).2.1 (fun h => Fin.ext (slot0 c).2.2.1) rfl (fun h => slice_oRows c (k0_off4_eq c)) (slice_send 0 rfl) (fun h => slice_recv c (k0_off3_eq c))) $$ [HS]
  · isplitr; · iexact HC
    iexact HS
  iintro HS
  iapply (wp_fill (n := 1) m ρ c 1 rfl rfl h1) $$ HS
  iintro HS
  iapply (wp_own m ρ c 1 (slot1 c).1 rfl (k0_off5_eq c) (pay := k0_pay9) fun _ => rfl) $$ HS
  iintro HS
  iapply (wp_sendSlot m ρ K c 1 (n' := 2) rfl (slot1 c).2.1 (fun h => Fin.ext (slot1 c).2.2.1) rfl (fun h => slice_oRows c (k0_off7_eq c)) (slice_send 1 rfl) (fun h => slice_recv c (k0_off6_eq c))) $$ [HS]
  · isplitr; · iexact HC
    iexact HS
  iintro HS
  iapply (wp_done c)
  iapply Hk
  iexact HS

/-- Chunk 1 is read, load 2 started. -/
theorem part6 (c : Dev nD) {v3 : BitVec 32} {Q : _ → sProp 𝕄} :
    iprop(ctx m ρ K ∗ LIdle (F := F) c 0 ∗ InFlight m c 1 (ck c 1) ∗ Slots m ρ c 2)
      ⊢ iprop((∀ v, iprop(LIdle (F := F) c 1 ∗ InFlight m c 0 (ck c 2) ∗ Slots m ρ c 2) -∗ Q ⟨v, k0_pay11 (xb m ρ c) (wt m c 1), k0_pay12 (xb m ρ c) (wt m c 1), FloatOps.ofBits .f32 0x3F800000#32⟩)
      -∗ WP c (k0_part6 xM (Memref.isWhole_whole _) aM (Memref.isWhole_whole _) oM (Memref.isWhole_whole _)
        wM (Memref.isWhole_whole _) yM (Memref.isWhole_whole _) cc0_scratch2 cc0_scratch3 cc0_scratch4 c v3 (xb m ρ c)) Q) := by
  rw [k0_part6_eq_skeleton]; unfold k0_part6_skel
  simp (config := {zetaHave := false}) only [semSignalWord, semWaitWord, Prog.lift, Prog.bind_op, Prog.bind_ret, Prog.pure_eq_ret, wp_deviceId]
  try extract_lets
  iintro ⟨#HC, HI, HF, HS⟩
  iintro Hk
  iapply (wp_landed m ρ K c 1 (ck c 1) 2 rfl (slice_load 1 rfl)) $$ [HF HS]
  · isplitr; · iexact HC
    isplitl [HF] <;> iassumption
  iintro ⟨HD, HA, HS⟩
  iapply (wp_start m c 0 (ck c 2) (slice_aCols (ck c 2) (k0_off1_eq c 2)) rfl (slice_load 0 rfl)) $$ [HI HA]
  · isplitl [HI] <;> iassumption
  iintro HF
  iapply (wp_chunk m c 1 (ck c 1) rfl) $$ HD
  iintro HI
  iapply (wp_done c)
  iapply Hk
  isplitl [HI]; · iexact HI
  isplitl [HF] <;> iassumption

/-- Slots 2 and 3. -/
theorem part7 (c : Dev nD) {v2 v3 v4 v138 : BitVec 32} {x y : FVec F S128x256 .f32} {z : F .f32} (h0 : k0_pay14 x y z = yv m ρ c 2) (h1 : k0_pay16 x y z = yv m ρ c 3)
    {Q : _ → sProp 𝕄} :
    iprop(ctx m ρ K ∗ Slots m ρ c 2)
      ⊢ iprop((∀ w, Slots m ρ c 4 -∗ Q w)
      -∗ WP c (k0_part7 xM (Memref.isWhole_whole _) aM (Memref.isWhole_whole _) oM (Memref.isWhole_whole _)
        wM (Memref.isWhole_whole _) yM (Memref.isWhole_whole _) cc0_scratch2 cc0_scratch3 cc0_scratch4 c v2 v3 v4 v138 x y z) Q) := by
  rw [k0_part7_eq_skeleton]; unfold k0_part7_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_fill (n := 2) m ρ c 2 rfl rfl h0) $$ HS
  iintro HS
  iapply (wp_own m ρ c 2 (slot2 c).1 rfl (k0_off8_eq c) (pay := k0_pay15) fun _ => rfl) $$ HS
  iintro HS
  iapply (wp_sendSlot m ρ K c 2 (n' := 3) rfl (slot2 c).2.1 (fun h => Fin.ext (slot2 c).2.2.1) rfl (fun h => slice_oRows c (k0_off10_eq c)) (slice_send 2 rfl) (fun h => slice_recv c (k0_off9_eq c))) $$ [HS]
  · isplitr; · iexact HC
    iexact HS
  iintro HS
  iapply (wp_fill (n := 3) m ρ c 3 rfl rfl h1) $$ HS
  iintro HS
  iapply (wp_own m ρ c 3 (slot3 c).1 rfl (k0_off11_eq c) (pay := k0_pay17) fun _ => rfl) $$ HS
  iintro HS
  iapply (wp_sendSlot m ρ K c 3 (n' := 4) rfl (slot3 c).2.1 (fun h => Fin.ext (slot3 c).2.2.1) rfl (fun h => slice_oRows c (k0_off13_eq c)) (slice_send 3 rfl) (fun h => slice_recv c (k0_off12_eq c))) $$ [HS]
  · isplitr; · iexact HC
    iexact HS
  iintro HS
  iapply (wp_done c)
  iapply Hk
  iexact HS

/-- Chunk 2 is read, load 3 started. -/
theorem part8 (c : Dev nD) {v3 v198 v199 : BitVec 32} {Q : _ → sProp 𝕄} :
    iprop(ctx m ρ K ∗ LIdle (F := F) c 1 ∗ InFlight m c 0 (ck c 2) ∗ Slots m ρ c 4)
      ⊢ iprop((∀ v, iprop(LIdle (F := F) c 0 ∗ InFlight m c 1 (ck c 3) ∗ Slots m ρ c 4) -∗ Q ⟨k0_pay18 (xb m ρ c) (wt m c 2), v⟩)
      -∗ WP c (k0_part8 xM (Memref.isWhole_whole _) aM (Memref.isWhole_whole _) oM (Memref.isWhole_whole _)
        wM (Memref.isWhole_whole _) yM (Memref.isWhole_whole _) cc0_scratch2 cc0_scratch3 cc0_scratch4 c v3 (xb m ρ c) v198 v199) Q) := by
  rw [k0_part8_eq_skeleton]; unfold k0_part8_skel
  simp (config := {zetaHave := false}) only [semSignalWord, semWaitWord, Prog.lift, Prog.bind_op, Prog.bind_ret, Prog.pure_eq_ret, wp_deviceId]
  try extract_lets
  iintro ⟨#HC, HI, HF, HS⟩
  iintro Hk
  iapply (wp_landed m ρ K c 0 (ck c 2) 4 rfl (slice_load 0 rfl)) $$ [HF HS]
  · isplitr; · iexact HC
    isplitl [HF] <;> iassumption
  iintro ⟨HD, HA, HS⟩
  iapply (wp_start m c 1 (ck c 3) (slice_aCols (ck c 3) (k0_off1_eq c 3)) rfl (slice_load 1 rfl)) $$ [HI HA]
  · isplitl [HI] <;> iassumption
  iintro HF
  iapply (wp_chunk m c 0 (ck c 2) rfl) $$ HD
  iintro HI
  iapply (wp_done c)
  iapply Hk
  isplitl [HI]; · iexact HI
  isplitl [HF] <;> iassumption

/-- Slots 4 and 5. -/
theorem part9 (c : Dev nD) {v2 v3 v4 v198 v233 : BitVec 32} {x : FVec F S128x256 .bf16} (h0 : k0_pay19 x = yv m ρ c 4) (h1 : k0_pay21 x = yv m ρ c 5)
    {Q : _ → sProp 𝕄} :
    iprop(ctx m ρ K ∗ Slots m ρ c 4)
      ⊢ iprop((∀ w, Slots m ρ c 6 -∗ Q w)
      -∗ WP c (k0_part9 xM (Memref.isWhole_whole _) aM (Memref.isWhole_whole _) oM (Memref.isWhole_whole _)
        wM (Memref.isWhole_whole _) yM (Memref.isWhole_whole _) cc0_scratch2 cc0_scratch3 cc0_scratch4 c v2 v3 v4 v198 x v233) Q) := by
  rw [k0_part9_eq_skeleton]; unfold k0_part9_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_fill (n := 4) m ρ c 4 rfl rfl h0) $$ HS
  iintro HS
  iapply (wp_own m ρ c 4 (slot4 c).1 rfl (k0_off14_eq c) (pay := k0_pay20) fun _ => rfl) $$ HS
  iintro HS
  iapply (wp_sendSlot m ρ K c 4 (n' := 5) rfl (slot4 c).2.1 (fun h => Fin.ext (slot4 c).2.2.1) rfl (fun h => slice_oRows c (k0_off16_eq c)) (slice_send 4 rfl) (fun h => slice_recv c (k0_off15_eq c))) $$ [HS]
  · isplitr; · iexact HC
    iexact HS
  iintro HS
  iapply (wp_fill (n := 5) m ρ c 5 rfl rfl h1) $$ HS
  iintro HS
  iapply (wp_own m ρ c 5 (slot5 c).1 rfl (k0_off17_eq c) (pay := k0_pay22) fun _ => rfl) $$ HS
  iintro HS
  iapply (wp_sendSlot m ρ K c 5 (n' := 6) rfl (slot5 c).2.1 (fun h => Fin.ext (slot5 c).2.2.1) rfl (fun h => slice_oRows c (k0_off19_eq c)) (slice_send 5 rfl) (fun h => slice_recv c (k0_off18_eq c))) $$ [HS]
  · isplitr; · iexact HC
    iexact HS
  iintro HS
  iapply (wp_done c)
  iapply Hk
  iexact HS

/-- Chunk 3 is read, load 4 started. -/
theorem part10 (c : Dev nD) {v3 v258 : BitVec 32} {Q : _ → sProp 𝕄} :
    iprop(ctx m ρ K ∗ LIdle (F := F) c 0 ∗ InFlight m c 1 (ck c 3) ∗ Slots m ρ c 6)
      ⊢ iprop((∀ v, iprop(LIdle (F := F) c 1 ∗ InFlight m c 0 (ck c 4) ∗ Slots m ρ c 6) -∗ Q ⟨k0_pay23 (xb m ρ c) (wt m c 3), v, k0_pay24 (xb m ρ c) (wt m c 3)⟩)
      -∗ WP c (k0_part10 xM (Memref.isWhole_whole _) aM (Memref.isWhole_whole _) oM (Memref.isWhole_whole _)
        wM (Memref.isWhole_whole _) yM (Memref.isWhole_whole _) cc0_scratch2 cc0_scratch3 cc0_scratch4 c v3 (xb m ρ c) v258) Q) := by
  rw [k0_part10_eq_skeleton]; unfold k0_part10_skel
  simp (config := {zetaHave := false}) only [semSignalWord, semWaitWord, Prog.lift, Prog.bind_op, Prog.bind_ret, Prog.pure_eq_ret, wp_deviceId]
  try extract_lets
  iintro ⟨#HC, HI, HF, HS⟩
  iintro Hk
  iapply (wp_landed m ρ K c 1 (ck c 3) 6 rfl (slice_load 1 rfl)) $$ [HF HS]
  · isplitr; · iexact HC
    isplitl [HF] <;> iassumption
  iintro ⟨HD, HA, HS⟩
  iapply (wp_start m c 0 (ck c 4) (slice_aCols (ck c 4) (k0_off1_eq c 4)) rfl (slice_load 0 rfl)) $$ [HI HA]
  · isplitl [HI] <;> iassumption
  iintro HF
  iapply (wp_chunk m c 1 (ck c 3) rfl) $$ HD
  iintro HI
  iapply (wp_done c)
  iapply Hk
  isplitl [HI]; · iexact HI
  isplitl [HF] <;> iassumption

/-- Slots 6 and 7. -/
theorem part11 (c : Dev nD) {v2 v3 v4 v258 v294 : BitVec 32} {x : FVec F S128x256 .bf16} {y : FVec F S128x128 .bf16} (h0 : k0_pay25 y = yv m ρ c 6) (h1 : k0_pay27 x = yv m ρ c 7)
    {Q : _ → sProp 𝕄} :
    iprop(ctx m ρ K ∗ Slots m ρ c 6)
      ⊢ iprop((∀ w, Slots m ρ c 8 -∗ Q w)
      -∗ WP c (k0_part11 xM (Memref.isWhole_whole _) aM (Memref.isWhole_whole _) oM (Memref.isWhole_whole _)
        wM (Memref.isWhole_whole _) yM (Memref.isWhole_whole _) cc0_scratch2 cc0_scratch3 cc0_scratch4 c v2 v3 v4 v258 x v294 y) Q) := by
  rw [k0_part11_eq_skeleton]; unfold k0_part11_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_fill (n := 6) m ρ c 6 rfl rfl h0) $$ HS
  iintro HS
  iapply (wp_own m ρ c 6 (slot6 c).1 rfl (k0_off20_eq c) (pay := k0_pay26) fun _ => rfl) $$ HS
  iintro HS
  iapply (wp_sendSlot m ρ K c 6 (n' := 7) rfl (slot6 c).2.1 (fun h => Fin.ext (slot6 c).2.2.1) rfl (fun h => slice_oRows c (k0_off22_eq c)) (slice_send 6 rfl) (fun h => slice_recv c (k0_off21_eq c))) $$ [HS]
  · isplitr; · iexact HC
    iexact HS
  iintro HS
  iapply (wp_fill (n := 7) m ρ c 7 rfl rfl h1) $$ HS
  iintro HS
  iapply (wp_own m ρ c 7 (slot7 c).1 rfl (k0_off23_eq c) (pay := k0_pay28) fun _ => rfl) $$ HS
  iintro HS
  iapply (wp_sendSlot m ρ K c 7 (n' := 8) rfl (slot7 c).2.1 (fun h => Fin.ext (slot7 c).2.2.1) rfl (fun h => slice_oRows c (k0_off25_eq c)) (slice_send 7 rfl) (fun h => slice_recv c (k0_off24_eq c))) $$ [HS]
  · isplitr; · iexact HC
    iexact HS
  iintro HS
  iapply (wp_done c)
  iapply Hk
  iexact HS

end Cert.KProof

end
-- ==== Proof.PartsB.lean ====
/-
# The parts of the kernel from slot 8 to the last send

As for the first parts; slots 8, 10, 12 and 15 begin in one part and end in the next.
-/
module

public import proofs.«01_k».proof.Proof.Facts

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond17 k0_cond18 k0_cond19 k0_cond20 k0_cond21 k0_cond22 k0_cond23 k0_cond24 k0_cond25 k0_cond26 k0_cond27 k0_cond28 k0_cond29 k0_cond30 k0_cond31
  k0_cond32 k0_cond49 k0_cond50 k0_cond51 k0_cond52 k0_cond53 k0_cond54 k0_cond55 k0_cond56 k0_cond57 k0_cond58 k0_cond59 k0_cond60 k0_cond61 k0_cond62
  k0_cond63 k0_cond64 k0_dev1 k0_dev2 k0_dev3 k0_dev4 k0_dev5 k0_dev6 k0_dev7 k0_dev8 k0_dev9 k0_dev10 k0_dev11 k0_dev12 k0_dev13 k0_dev14 k0_dev15
  k0_dev16 k0_dev17 k0_dev18 k0_dev19 k0_dev20 k0_dev21 k0_dev22 k0_dev23 k0_dev24 k0_dev25 k0_dev26 k0_dev27 k0_dev28 k0_dev29 k0_dev30 k0_dev31
  k0_off1 k0_off2 k0_off3 k0_off4 k0_off5 k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29 k0_off30 k0_off31 k0_off32 k0_off33
  k0_off34 k0_off35 k0_off36 k0_off37 k0_off38 k0_off39 k0_off40 k0_off41 k0_off42 k0_off43 k0_off44 k0_off45 k0_off46 k0_off47 k0_off48 k0_off49
  k0_off50 k0_off51 k0_off52 k0_off53 k0_off54 k0_off55 k0_off56 k0_off57 k0_off58 k0_off59 k0_off60 k0_off61 k0_off62 k0_off63 k0_off64 k0_off65

variable (m : (ℓ : Loc nD τ sig) → Buf (Elt F) ℓ) (ρ : Dev nD → PrngReg)
variable (K : Dev nD × CK → ℕ)

/-- Chunk 4 is read, load 5 started, slot 8 filled. -/
theorem part12 (c : Dev nD) {v2 v3 v318 : BitVec 32} {Q : _ → sProp 𝕄} :
    iprop(ctx m ρ K ∗ LIdle (F := F) c 1 ∗ InFlight m c 0 (ck c 4) ∗ Slots m ρ c 8)
      ⊢ iprop((∀ v354 v359 v360, iprop(LIdle (F := F) c 0 ∗ InFlight m c 1 (ck c 5) ∗ Stored m ρ c 8) -∗ Q ⟨k0_pay29 (xb m ρ c) (wt m c 4), v354, v359, v360⟩)
      -∗ WP c (k0_part12 xM (Memref.isWhole_whole _) aM (Memref.isWhole_whole _) oM (Memref.isWhole_whole _)
        wM (Memref.isWhole_whole _) yM (Memref.isWhole_whole _) cc0_scratch2 cc0_scratch3 cc0_scratch4 c v2 v3 (xb m ρ c) v318) Q) := by
  rw [k0_part12_eq_skeleton]; unfold k0_part12_skel
  simp (config := {zetaHave := false}) only [semSignalWord, semWaitWord, Prog.lift, Prog.bind_op, Prog.bind_ret, Prog.pure_eq_ret, wp_deviceId]
  try extract_lets
  iintro ⟨#HC, HI, HF, HS⟩
  iintro Hk
  iapply (wp_landed m ρ K c 0 (ck c 4) 8 rfl (slice_load 0 rfl)) $$ [HF HS]
  · isplitr; · iexact HC
    isplitl [HF] <;> iassumption
  iintro ⟨HD, HA, HS⟩
  iapply (wp_start m c 1 (ck c 5) (slice_aCols (ck c 5) (k0_off1_eq c 5)) rfl (slice_load 1 rfl)) $$ [HI HA]
  · isplitl [HI] <;> iassumption
  iintro HF
  iapply (wp_chunk m c 0 (ck c 4) rfl) $$ HD
  iintro HI
  iapply (wp_fill (n := 8) m ρ c 8 rfl rfl (fill8 m ρ c)) $$ HS
  iintro HS
  iapply (wp_done c)
  iapply Hk
  isplitl [HI]; · iexact HI
  isplitl [HF] <;> iassumption

/-- Slots 8 and 9, and load 5 has landed. -/
theorem part13 (c : Dev nD) {v2 v3 v4 v318 v354 v360 : BitVec 32} {v359 : BitVec 1} {x : FVec F S128x256 .bf16} (h1 : k0_pay32 x = yv m ρ c 9)
    {Q : _ → sProp 𝕄} :
    iprop(ctx m ρ K ∗ InFlight m c 1 (ck c 5) ∗ Stored m ρ c 8)
      ⊢ iprop((∀ w, iprop(LDone m c 1 (ck c 5) ∗ aAll m c ∗ Slots m ρ c 10) -∗ Q w)
      -∗ WP c (k0_part13 xM (Memref.isWhole_whole _) aM (Memref.isWhole_whole _) oM (Memref.isWhole_whole _)
        wM (Memref.isWhole_whole _) yM (Memref.isWhole_whole _) cc0_scratch2 cc0_scratch3 cc0_scratch4 c v2 v3 v4 v318 x v354 v359 v360) Q) := by
  rw [k0_part13_eq_skeleton]; unfold k0_part13_skel
  simp (config := {zetaHave := false}) only [semSignalWord, semWaitWord, Prog.lift, Prog.bind_op, Prog.bind_ret, Prog.pure_eq_ret, wp_deviceId]
  try extract_lets
  iintro ⟨#HC, HF, HS⟩
  iintro Hk
  iapply (wp_own m ρ c 8 (slot8 c).1 rfl (k0_off26_eq c) (pay := k0_pay31) fun _ => rfl) $$ HS
  iintro HS
  iapply (wp_sendSlot m ρ K c 8 (n' := 9) rfl (slot8 c).2.1 (fun h => Fin.ext (slot8 c).2.2.1) rfl (fun h => slice_oRows c (k0_off28_eq c)) (slice_send 8 rfl) (fun h => slice_recv c (k0_off27_eq c))) $$ [HS]
  · isplitr; · iexact HC
    iexact HS
  iintro HS
  iapply (wp_fill (n := 9) m ρ c 9 rfl rfl h1) $$ HS
  iintro HS
  iapply (wp_own m ρ c 9 (slot9 c).1 rfl (k0_off29_eq c) (pay := k0_pay33) fun _ => rfl) $$ HS
  iintro HS
  iapply (wp_sendSlot m ρ K c 9 (n' := 10) rfl (slot9 c).2.1 (fun h => Fin.ext (slot9 c).2.2.1) rfl (fun h => slice_oRows c (k0_off31_eq c)) (slice_send 9 rfl) (fun h => slice_recv c (k0_off30_eq c))) $$ [HS]
  · isplitr; · iexact HC
    iexact HS
  iintro HS
  iapply (wp_landed m ρ K c 1 (ck c 5) 10 rfl (slice_load 1 rfl)) $$ [HF HS]
  · isplitr; · iexact HC
    isplitl [HF] <;> iassumption
  iintro ⟨HD, HA, HS⟩
  iapply (wp_done c)
  iapply Hk
  isplitl [HD]; · iexact HD
  isplitl [HA] <;> iassumption

/-- Load 6 is started, chunk 5 read, slot 10 filled and stored if it is the device's own. -/
theorem part14 (c : Dev nD) {v2 v4 v378 v387 c8 : BitVec 32} {Q : _ → sProp 𝕄} :
    iprop(ctx m ρ K ∗ LIdle (F := F) c 0 ∗ LDone m c 1 (ck c 5) ∗ aAll m c ∗ Slots m ρ c 10)
      ⊢ iprop((∀ v414 v419 v423, iprop(LIdle (F := F) c 1 ∗ InFlight m c 0 (ck c 6) ∗ Owned m ρ c 10) -∗ Q ⟨k0_pay34 (xb m ρ c) (wt m c 5), v414, v419, v423⟩)
      -∗ WP c (k0_part14 xM (Memref.isWhole_whole _) aM (Memref.isWhole_whole _) oM (Memref.isWhole_whole _)
        wM (Memref.isWhole_whole _) yM (Memref.isWhole_whole _) cc0_scratch2 cc0_scratch3 cc0_scratch4 c v2 v4 (xb m ρ c) v378 v387 c8) Q) := by
  rw [k0_part14_eq_skeleton]; unfold k0_part14_skel
  simp (config := {zetaHave := false}) only [semSignalWord, semWaitWord, Prog.lift, Prog.bind_op, Prog.bind_ret, Prog.pure_eq_ret, wp_deviceId]
  try extract_lets
  iintro ⟨#HC, HI, HD, HA, HS⟩
  iintro Hk
  iapply (wp_start m c 0 (ck c 6) (slice_aCols (ck c 6) (k0_off1_eq c 6)) rfl (slice_load 0 rfl)) $$ [HI HA]
  · isplitl [HI] <;> iassumption
  iintro HF
  iapply (wp_chunk m c 1 (ck c 5) rfl) $$ HD
  iintro HI
  iapply (wp_fill (n := 10) m ρ c 10 rfl rfl (fill10 m ρ c)) $$ HS
  iintro HS
  extract_lets
  iapply (wp_own m ρ c 10 (slot10 c).1 rfl (k0_off32_eq c) (pay := k0_pay36) fun _ => rfl) $$ HS
  iintro HS
  iapply (wp_done c)
  iapply Hk
  isplitl [HI]; · iexact HI
  isplitl [HF] <;> iassumption

/-- Slots 10 and 11, and load 6 has landed. -/
theorem part15 (c : Dev nD) {v2 v3 v4 v378 v414 v423 : BitVec 32} {x : FVec F S128x256 .bf16} (h1 : k0_pay37 x = yv m ρ c 11)
    {Q : _ → sProp 𝕄} :
    iprop(ctx m ρ K ∗ InFlight m c 0 (ck c 6) ∗ Owned m ρ c 10)
      ⊢ iprop((∀ w, iprop(LDone m c 0 (ck c 6) ∗ aAll m c ∗ Slots m ρ c 12) -∗ Q w)
      -∗ WP c (k0_part15 xM (Memref.isWhole_whole _) aM (Memref.isWhole_whole _) oM (Memref.isWhole_whole _)
        wM (Memref.isWhole_whole _) yM (Memref.isWhole_whole _) cc0_scratch2 cc0_scratch3 cc0_scratch4 c v2 v3 v4 v378 x v414 v423) Q) := by
  rw [k0_part15_eq_skeleton]; unfold k0_part15_skel
  simp (config := {zetaHave := false}) only [semSignalWord, semWaitWord, Prog.lift, Prog.bind_op, Prog.bind_ret, Prog.pure_eq_ret, wp_deviceId]
  try extract_lets
  iintro ⟨#HC, HF, HS⟩
  iintro Hk
  iapply (wp_sendSlot m ρ K c 10 (n' := 11) rfl (slot10 c).2.1 (fun h => Fin.ext (slot10 c).2.2.1) rfl (fun h => slice_oRows c (k0_off34_eq c)) (slice_send 10 rfl) (fun h => slice_recv c (k0_off33_eq c))) $$ [HS]
  · isplitr; · iexact HC
    iexact HS
  iintro HS
  iapply (wp_fill (n := 11) m ρ c 11 rfl rfl h1) $$ HS
  iintro HS
  iapply (wp_own m ρ c 11 (slot11 c).1 rfl (k0_off35_eq c) (pay := k0_pay38) fun _ => rfl) $$ HS
  iintro HS
  iapply (wp_sendSlot m ρ K c 11 (n' := 12) rfl (slot11 c).2.1 (fun h => Fin.ext (slot11 c).2.2.1) rfl (fun h => slice_oRows c (k0_off37_eq c)) (slice_send 11 rfl) (fun h => slice_recv c (k0_off36_eq c))) $$ [HS]
  · isplitr; · iexact HC
    iexact HS
  iintro HS
  iapply (wp_landed m ρ K c 0 (ck c 6) 12 rfl (slice_load 0 rfl)) $$ [HF HS]
  · isplitr; · iexact HC
    isplitl [HF] <;> iassumption
  iintro ⟨HD, HA, HS⟩
  iapply (wp_done c)
  iapply Hk
  isplitl [HD]; · iexact HD
  isplitl [HA] <;> iassumption

/-- Load 7 is started, chunk 6 read, slot 12 done. -/
theorem part16 (c : Dev nD) {v2 v4 v438 : BitVec 32} {Q : _ → sProp 𝕄} :
    iprop(ctx m ρ K ∗ LIdle (F := F) c 1 ∗ LDone m c 0 (ck c 6) ∗ aAll m c ∗ Slots m ρ c 12)
      ⊢ iprop((∀ v479 w, iprop(LIdle (F := F) c 0 ∗ InFlight m c 1 (ck c 7) ∗ Slots m ρ c 13) -∗ Q ⟨k0_pay39 (xb m ρ c) (wt m c 6), v479, w⟩)
      -∗ WP c (k0_part16 xM (Memref.isWhole_whole _) aM (Memref.isWhole_whole _) oM (Memref.isWhole_whole _)
        wM (Memref.isWhole_whole _) yM (Memref.isWhole_whole _) cc0_scratch2 cc0_scratch3 cc0_scratch4 c v2 v4 (xb m ρ c) v438) Q) := by
  rw [k0_part16_eq_skeleton]; unfold k0_part16_skel
  simp (config := {zetaHave := false}) only [semSignalWord, semWaitWord, Prog.lift, Prog.bind_op, Prog.bind_ret, Prog.pure_eq_ret, wp_deviceId]
  try extract_lets
  iintro ⟨#HC, HI, HD, HA, HS⟩
  iintro Hk
  iapply (wp_start m c 1 (ck c 7) (slice_aCols (ck c 7) (k0_off1_eq c 7)) rfl (slice_load 1 rfl)) $$ [HI HA]
  · isplitl [HI] <;> iassumption
  iintro HF
  iapply (wp_chunk m c 0 (ck c 6) rfl) $$ HD
  iintro HI
  iapply (wp_fill (n := 12) m ρ c 12 rfl rfl (fill12 m ρ c)) $$ HS
  iintro HS
  extract_lets
  iapply (wp_own m ρ c 12 (slot12 c).1 rfl (k0_off38_eq c) (pay := k0_pay41) fun _ => rfl) $$ HS
  iintro HS
  iapply (wp_sendSlot m ρ K c 12 (n' := 13) rfl (slot12 c).2.1 (fun h => Fin.ext (slot12 c).2.2.1) rfl (fun h => slice_oRows c (k0_off40_eq c)) (slice_send 12 rfl) (fun h => slice_recv c (k0_off39_eq c))) $$ [HS]
  · isplitr; · iexact HC
    iexact HS
  iintro HS
  iapply (wp_done c)
  iapply Hk
  isplitl [HI]; · iexact HI
  isplitl [HF] <;> iassumption

/-- Slot 13, and chunk 7 is read. -/
theorem part17 (c : Dev nD) {v2 v3 v4 v438 c2 : BitVec 32} {x : FVec F S128x256 .bf16} (h1 : k0_pay42 x = yv m ρ c 13)
    {Q : _ → sProp 𝕄} :
    iprop(ctx m ρ K ∗ InFlight m c 1 (ck c 7) ∗ Slots m ρ c 13)
      ⊢ iprop((∀ v491 v498, iprop(LIdle (F := F) c 1 ∗ aAll m c ∗ Slots m ρ c 14) -∗ Q ⟨v491, v498, k0_pay44 (xb m ρ c) (wt m c 7), k0_pay45 (xb m ρ c) (wt m c 7), k0_pay46 (xb m ρ c) (wt m c 7)⟩)
      -∗ WP c (k0_part17 xM (Memref.isWhole_whole _) aM (Memref.isWhole_whole _) oM (Memref.isWhole_whole _)
        wM (Memref.isWhole_whole _) yM (Memref.isWhole_whole _) cc0_scratch2 cc0_scratch3 cc0_scratch4 c v2 v3 v4 (xb m ρ c) v438 x c2) Q) := by
  rw [k0_part17_eq_skeleton]; unfold k0_part17_skel
  simp (config := {zetaHave := false}) only [semSignalWord, semWaitWord, Prog.lift, Prog.bind_op, Prog.bind_ret, Prog.pure_eq_ret, wp_deviceId]
  try extract_lets
  iintro ⟨#HC, HF, HS⟩
  iintro Hk
  iapply (wp_fill (n := 13) m ρ c 13 rfl rfl h1) $$ HS
  iintro HS
  iapply (wp_own m ρ c 13 (slot13 c).1 rfl (k0_off41_eq c) (pay := k0_pay43) fun _ => rfl) $$ HS
  iintro HS
  iapply (wp_sendSlot m ρ K c 13 (n' := 14) rfl (slot13 c).2.1 (fun h => Fin.ext (slot13 c).2.2.1) rfl (fun h => slice_oRows c (k0_off43_eq c)) (slice_send 13 rfl) (fun h => slice_recv c (k0_off42_eq c))) $$ [HS]
  · isplitr; · iexact HC
    iexact HS
  iintro HS
  iapply (wp_landed m ρ K c 1 (ck c 7) 14 rfl (slice_load 1 rfl)) $$ [HF HS]
  · isplitr; · iexact HC
    isplitl [HF] <;> iassumption
  iintro ⟨HD, HA, HS⟩
  iapply (wp_chunk m c 1 (ck c 7) rfl) $$ HD
  iintro HI
  iapply (wp_done c)
  iapply Hk
  isplitl [HI]; · iexact HI
  isplitl [HA] <;> iassumption

/-- Slot 14, and slot 15 filled and stored if it is the device's own. -/
theorem part18 (c : Dev nD) {v2 v4 v498 : BitVec 32} {x y z : FVec F S128x256 .f32} (h0 : k0_pay48 x y z = yv m ρ c 14) (h1 : k0_pay50 x y z = yv m ρ c 15)
    {Q : _ → sProp 𝕄} :
    iprop(ctx m ρ K ∗ Slots m ρ c 14)
      ⊢ iprop((∀ w, Owned m ρ c 15 -∗ Q w)
      -∗ WP c (k0_part18 xM (Memref.isWhole_whole _) aM (Memref.isWhole_whole _) oM (Memref.isWhole_whole _)
        wM (Memref.isWhole_whole _) yM (Memref.isWhole_whole _) cc0_scratch2 cc0_scratch3 cc0_scratch4 c v2 v4 v498 x y z) Q) := by
  rw [k0_part18_eq_skeleton]; unfold k0_part18_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_fill (n := 14) m ρ c 14 rfl rfl h0) $$ HS
  iintro HS
  iapply (wp_own m ρ c 14 (slot14 c).1 rfl (k0_off44_eq c) (pay := k0_pay49) fun _ => rfl) $$ HS
  iintro HS
  iapply (wp_sendSlot m ρ K c 14 (n' := 15) rfl (slot14 c).2.1 (fun h => Fin.ext (slot14 c).2.2.1) rfl (fun h => slice_oRows c (k0_off46_eq c)) (slice_send 14 rfl) (fun h => slice_recv c (k0_off45_eq c))) $$ [HS]
  · isplitr; · iexact HC
    iexact HS
  iintro HS
  iapply (wp_fill (n := 15) m ρ c 15 rfl rfl h1) $$ HS
  iintro HS
  iapply (wp_own m ρ c 15 (slot15 c).1 rfl (k0_off47_eq c) (pay := k0_pay51) fun _ => rfl) $$ HS
  iintro HS
  iapply (wp_done c)
  iapply Hk
  iexact HS

end Cert.KProof

end
-- ==== Proof.PartsC.lean ====
/-
# The parts of the kernel that wait

The last send, the waits for the blocks of the other devices, and the waits for the sends.
-/
module

public import proofs.«01_k».proof.Proof.Facts

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond17 k0_cond18 k0_cond19 k0_cond20 k0_cond21 k0_cond22 k0_cond23 k0_cond24 k0_cond25 k0_cond26 k0_cond27 k0_cond28 k0_cond29 k0_cond30 k0_cond31
  k0_cond32 k0_cond49 k0_cond50 k0_cond51 k0_cond52 k0_cond53 k0_cond54 k0_cond55 k0_cond56 k0_cond57 k0_cond58 k0_cond59 k0_cond60 k0_cond61 k0_cond62
  k0_cond63 k0_cond64 k0_dev1 k0_dev2 k0_dev3 k0_dev4 k0_dev5 k0_dev6 k0_dev7 k0_dev8 k0_dev9 k0_dev10 k0_dev11 k0_dev12 k0_dev13 k0_dev14 k0_dev15
  k0_dev16 k0_dev17 k0_dev18 k0_dev19 k0_dev20 k0_dev21 k0_dev22 k0_dev23 k0_dev24 k0_dev25 k0_dev26 k0_dev27 k0_dev28 k0_dev29 k0_dev30 k0_dev31
  k0_off1 k0_off2 k0_off3 k0_off4 k0_off5 k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29 k0_off30 k0_off31 k0_off32 k0_off33
  k0_off34 k0_off35 k0_off36 k0_off37 k0_off38 k0_off39 k0_off40 k0_off41 k0_off42 k0_off43 k0_off44 k0_off45 k0_off46 k0_off47 k0_off48 k0_off49
  k0_off50 k0_off51 k0_off52 k0_off53 k0_off54 k0_off55 k0_off56 k0_off57 k0_off58 k0_off59 k0_off60 k0_off61 k0_off62 k0_off63 k0_off64 k0_off65

variable (m : (ℓ : Loc nD τ sig) → Buf (Elt F) ℓ) (ρ : Dev nD → PrngReg)
variable (K : Dev nD × CK → ℕ)

/-- When all slots are done the receive waits begin; -/
theorem slots_recvs (c : Dev nD) : iprop(Slots m ρ c 16 ∗ bigSep Finset.univ (RPre (F := F) c)) ⊢ iprop(bigSep Finset.univ (Post m ρ c) ∗ Recvs m ρ c 0) := by
  unfold Slots Recvs
  rw [fromS_zero, uptoS_end, uptoS_zero, bigSep_empty]
  iintro ⟨⟨HO, -, HP⟩, HR⟩
  isplitl [HP]; · iexact HP
  isplitl [HO]; · iapply (Entails.of_eq (congrArg (Owe (F := F) c) (show owedSlots c 16 = 0 by unfold owedSlots; rw [fromS_end, Finset.sum_empty]))) $$ HO
  isplitl [HR]; · iexact HR
  iempintro

/-- when those are done, the send waits. -/
theorem recvs_sends (c : Dev nD) :
    iprop(Recvs m ρ c 16 ∗ bigSep Finset.univ (Post m ρ c) ∗ bigSep Finset.univ (fun s => atPos ER (sendCell c s) 0 ∅ 0))
      ⊢ iprop(bigSep Finset.univ (RPost m ρ c) ∗ Sends m ρ c 0) := by
  unfold Recvs Sends SPre
  rw [fromS_zero, uptoS_end, uptoS_zero, bigSep_empty, bigSep_sep']
  iintro ⟨⟨HO, -, HR⟩, HP, HA⟩
  isplitl [HR]; · iexact HR
  isplitl [HO]; · iexact HO
  isplitl [HP HA]
  · isplitl [HP] <;> iassumption
  iempintro

/-- The last send, and the waits for senders 0 to 5. -/
theorem part19 (c : Dev nD) {v538 : BitVec 32} {Q : _ → sProp 𝕄} :
    iprop(ctx m ρ K ∗ Owned m ρ c 15 ∗ bigSep Finset.univ (RPre (F := F) c))
      ⊢ iprop((iprop(bigSep Finset.univ (Post m ρ c) ∗ Recvs m ρ c 6) -∗ Q (Scalar.extui (Scalar.cmpi .ne (vid c) 6#32)))
      -∗ WP c (k0_part19 xM (Memref.isWhole_whole _) aM (Memref.isWhole_whole _) oM (Memref.isWhole_whole _)
        wM (Memref.isWhole_whole _) yM (Memref.isWhole_whole _) cc0_scratch2 cc0_scratch3 cc0_scratch4 c (vid c) v538) Q) := by
  rw [k0_part19_eq_skeleton]; unfold k0_part19_skel
  simp (config := {zetaHave := false}) only [semSignalWord, semWaitWord, Prog.lift, Prog.bind_op, Prog.bind_ret, Prog.pure_eq_ret, wp_deviceId]
  try extract_lets
  iintro ⟨#HC, HS, HR⟩
  iintro Hk
  iapply (wp_sendSlot m ρ K c 15 (n' := 16) rfl (slot15 c).2.1 (fun h => Fin.ext (slot15 c).2.2.1) rfl (fun h => slice_oRows c (k0_off49_eq c)) (slice_send 15 rfl) (fun h => slice_recv c (k0_off48_eq c))) $$ [HS]
  · isplitr; · iexact HC
    iexact HS
  iintro HS
  ihave HS := (slots_recvs m ρ c) $$ [HS HR]
  · isplitl [HS] <;> iassumption
  icases HS with ⟨HP, HS⟩
  iapply (wp_recv m ρ K c 0 (n := 0) (n' := 1) rfl rfl (recv_cond 0 c) (slice_recv 0 rfl) (slice_oRows 0 rfl)) $$ [HS]
  · isplitr; · iexact HC
    iexact HS
  iintro HS
  iapply (wp_recv m ρ K c 1 (n := 1) (n' := 2) rfl rfl (recv_cond 1 c) (slice_recv 1 rfl) (slice_oRows 1 rfl)) $$ [HS]
  · isplitr; · iexact HC
    iexact HS
  iintro HS
  iapply (wp_recv m ρ K c 2 (n := 2) (n' := 3) rfl rfl (recv_cond 2 c) (slice_recv 2 rfl) (slice_oRows 2 rfl)) $$ [HS]
  · isplitr; · iexact HC
    iexact HS
  iintro HS
  iapply (wp_recv m ρ K c 3 (n := 3) (n' := 4) rfl rfl (recv_cond 3 c) (slice_recv 3 rfl) (slice_oRows 3 rfl)) $$ [HS]
  · isplitr; · iexact HC
    iexact HS
  iintro HS
  iapply (wp_recv m ρ K c 4 (n := 4) (n' := 5) rfl rfl (recv_cond 4 c) (slice_recv 4 rfl) (slice_oRows 4 rfl)) $$ [HS]
  · isplitr; · iexact HC
    iexact HS
  iintro HS
  iapply (wp_recv m ρ K c 5 (n := 5) (n' := 6) rfl rfl (recv_cond 5 c) (slice_recv 5 rfl) (slice_oRows 5 rfl)) $$ [HS]
  · isplitr; · iexact HC
    iexact HS
  iintro HS
  iapply (wp_done c)
  iapply Hk
  isplitl [HP] <;> iassumption

/-- The waits for senders 6 to 12. -/
theorem part20 (c : Dev nD) {Q : _ → sProp 𝕄} :
    iprop(ctx m ρ K ∗ Recvs m ρ c 6)
      ⊢ iprop((Recvs m ρ c 13 -∗ Q (Scalar.cmpi .ne (vid c) 13#32))
      -∗ WP c (k0_part20 xM (Memref.isWhole_whole _) aM (Memref.isWhole_whole _) oM (Memref.isWhole_whole _)
        wM (Memref.isWhole_whole _) yM (Memref.isWhole_whole _) cc0_scratch2 cc0_scratch3 cc0_scratch4 (vid c) (Scalar.extui (Scalar.cmpi .ne (vid c) 6#32))) Q) := by
  rw [k0_part20_eq_skeleton]; unfold k0_part20_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_recv m ρ K c 6 (n := 6) (n' := 7) rfl rfl (recv_cond 6 c) (slice_recv 6 rfl) (slice_oRows 6 rfl)) $$ [HS]
  · isplitr; · iexact HC
    iexact HS
  iintro HS
  iapply (wp_recv m ρ K c 7 (n := 7) (n' := 8) rfl rfl (recv_cond 7 c) (slice_recv 7 rfl) (slice_oRows 7 rfl)) $$ [HS]
  · isplitr; · iexact HC
    iexact HS
  iintro HS
  iapply (wp_recv m ρ K c 8 (n := 8) (n' := 9) rfl rfl (recv_cond 8 c) (slice_recv 8 rfl) (slice_oRows 8 rfl)) $$ [HS]
  · isplitr; · iexact HC
    iexact HS
  iintro HS
  iapply (wp_recv m ρ K c 9 (n := 9) (n' := 10) rfl rfl (recv_cond 9 c) (slice_recv 9 rfl) (slice_oRows 9 rfl)) $$ [HS]
  · isplitr; · iexact HC
    iexact HS
  iintro HS
  iapply (wp_recv m ρ K c 10 (n := 10) (n' := 11) rfl rfl (recv_cond 10 c) (slice_recv 10 rfl) (slice_oRows 10 rfl)) $$ [HS]
  · isplitr; · iexact HC
    iexact HS
  iintro HS
  iapply (wp_recv m ρ K c 11 (n := 11) (n' := 12) rfl rfl (recv_cond 11 c) (slice_recv 11 rfl) (slice_oRows 11 rfl)) $$ [HS]
  · isplitr; · iexact HC
    iexact HS
  iintro HS
  iapply (wp_recv m ρ K c 12 (n := 12) (n' := 13) rfl rfl (recv_cond 12 c) (slice_recv 12 rfl) (slice_oRows 12 rfl)) $$ [HS]
  · isplitr; · iexact HC
    iexact HS
  iintro HS
  iapply (wp_done c)
  iapply Hk
  iexact HS

/-- The waits for senders 13 to 15 and for sends 0 to 3. -/
theorem part21 (c : Dev nD) {b0 b1 b2 b3 b4 : BitVec 1} {Q : _ → sProp 𝕄} :
    iprop(ctx m ρ K ∗ Recvs m ρ c 13 ∗ bigSep Finset.univ (Post m ρ c) ∗ bigSep Finset.univ (fun s => atPos ER (sendCell c s) 0 ∅ 0))
      ⊢ iprop((∀ w, iprop(bigSep Finset.univ (RPost m ρ c) ∗ Sends m ρ c 4) -∗ Q w)
      -∗ WP c (k0_part21 xM (Memref.isWhole_whole _) aM (Memref.isWhole_whole _) oM (Memref.isWhole_whole _)
        wM (Memref.isWhole_whole _) yM (Memref.isWhole_whole _) cc0_scratch2 cc0_scratch3 cc0_scratch4 c (vid c) b0 b1 b2 b3 b4 (Scalar.cmpi .ne (vid c) 13#32)) Q) := by
  rw [k0_part21_eq_skeleton]; unfold k0_part21_skel
  simp (config := {zetaHave := false}) only [semSignalWord, semWaitWord, Prog.lift, Prog.bind_op, Prog.bind_ret, Prog.pure_eq_ret, wp_deviceId]
  try extract_lets
  iintro ⟨#HC, HS, HP, HT⟩
  iintro Hk
  iapply (wp_recv m ρ K c 13 (n := 13) (n' := 14) rfl rfl (recv_cond 13 c) (slice_recv 13 rfl) (slice_oRows 13 rfl)) $$ [HS]
  · isplitr; · iexact HC
    iexact HS
  iintro HS
  iapply (wp_recv m ρ K c 14 (n := 14) (n' := 15) rfl rfl (recv_cond 14 c) (slice_recv 14 rfl) (slice_oRows 14 rfl)) $$ [HS]
  · isplitr; · iexact HC
    iexact HS
  iintro HS
  iapply (wp_recv m ρ K c 15 (n := 15) (n' := 16) rfl rfl (recv_cond 15 c) (slice_recv 15 rfl) (slice_oRows 15 rfl)) $$ [HS]
  · isplitr; · iexact HC
    iexact HS
  iintro HS
  ihave HS := (recvs_sends m ρ c) $$ [HS HP HT]
  · isplitl [HS]; · iexact HS
    isplitl [HP] <;> iassumption
  icases HS with ⟨HR, HS⟩
  iapply (wp_sent m ρ K c 0 (n := 0) (n' := 1) rfl rfl (slot0 c).2.2.2 (slice_send 0 rfl) rfl) $$ [HS]
  · isplitr; · iexact HC
    iexact HS
  iintro HS
  iapply (wp_sent m ρ K c 1 (n := 1) (n' := 2) rfl rfl (slot1 c).2.2.2 (slice_send 1 rfl) rfl) $$ [HS]
  · isplitr; · iexact HC
    iexact HS
  iintro HS
  iapply (wp_sent m ρ K c 2 (n := 2) (n' := 3) rfl rfl (slot2 c).2.2.2 (slice_send 2 rfl) rfl) $$ [HS]
  · isplitr; · iexact HC
    iexact HS
  iintro HS
  iapply (wp_sent m ρ K c 3 (n := 3) (n' := 4) rfl rfl (slot3 c).2.2.2 (slice_send 3 rfl) rfl) $$ [HS]
  · isplitr; · iexact HC
    iexact HS
  iintro HS
  iapply (wp_done c)
  iapply Hk
  isplitl [HR] <;> iassumption

/-- The waits for sends 4 to 10. -/
theorem part22 (c : Dev nD) {b0 b1 b2 b3 b4 b5 b6 : BitVec 1} {v610 : BitVec 32} {Q : _ → sProp 𝕄} :
    iprop(ctx m ρ K ∗ Sends m ρ c 4)
      ⊢ iprop((Sends m ρ c 11 -∗ Q ⟨⟩)
      -∗ WP c (k0_part22 xM (Memref.isWhole_whole _) aM (Memref.isWhole_whole _) oM (Memref.isWhole_whole _)
        wM (Memref.isWhole_whole _) yM (Memref.isWhole_whole _) cc0_scratch2 cc0_scratch3 cc0_scratch4 c b0 b1 b2 b3 b4 b5 b6 v610) Q) := by
  rw [k0_part22_eq_skeleton]; unfold k0_part22_skel
  simp (config := {zetaHave := false}) only [semSignalWord, semWaitWord, Prog.lift, Prog.bind_op, Prog.bind_ret, Prog.pure_eq_ret, wp_deviceId]
  try extract_lets
  iintro ⟨#HC, HS⟩
  iintro Hk
  iapply (wp_sent m ρ K c 4 (n := 4) (n' := 5) rfl rfl (slot4 c).2.2.2 (slice_send 4 rfl) rfl) $$ [HS]
  · isplitr; · iexact HC
    iexact HS
  iintro HS
  iapply (wp_sent m ρ K c 5 (n := 5) (n' := 6) rfl rfl (slot5 c).2.2.2 (slice_send 5 rfl) rfl) $$ [HS]
  · isplitr; · iexact HC
    iexact HS
  iintro HS
  iapply (wp_sent m ρ K c 6 (n := 6) (n' := 7) rfl rfl (slot6 c).2.2.2 (slice_send 6 rfl) rfl) $$ [HS]
  · isplitr; · iexact HC
    iexact HS
  iintro HS
  iapply (wp_sent m ρ K c 7 (n := 7) (n' := 8) rfl rfl (slot7 c).2.2.2 (slice_send 7 rfl) rfl) $$ [HS]
  · isplitr; · iexact HC
    iexact HS
  iintro HS
  iapply (wp_sent m ρ K c 8 (n := 8) (n' := 9) rfl rfl (slot8 c).2.2.2 (slice_send 8 rfl) rfl) $$ [HS]
  · isplitr; · iexact HC
    iexact HS
  iintro HS
  iapply (wp_sent m ρ K c 9 (n := 9) (n' := 10) rfl rfl (slot9 c).2.2.2 (slice_send 9 rfl) rfl) $$ [HS]
  · isplitr; · iexact HC
    iexact HS
  iintro HS
  iapply (wp_sent m ρ K c 10 (n := 10) (n' := 11) rfl rfl (slot10 c).2.2.2 (slice_send 10 rfl) rfl) $$ [HS]
  · isplitr; · iexact HC
    iexact HS
  iintro HS
  iapply (wp_done c)
  iapply Hk
  iexact HS

end Cert.KProof

end
-- ==== Proof.Body.lean ====
/-
# The kernel on one device

The parts of the kernel one after the other, from the resources a device enters with to those it leaves with.
-/
module

public import proofs.«01_k».proof.Proof.PartsA
public import proofs.«01_k».proof.Proof.PartsB
public import proofs.«01_k».proof.Proof.PartsC

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond17 k0_cond18 k0_cond19 k0_cond20 k0_cond21 k0_cond22 k0_cond23 k0_cond24 k0_cond25 k0_cond26 k0_cond27 k0_cond28 k0_cond29 k0_cond30 k0_cond31
  k0_cond32 k0_cond49 k0_cond50 k0_cond51 k0_cond52 k0_cond53 k0_cond54 k0_cond55 k0_cond56 k0_cond57 k0_cond58 k0_cond59 k0_cond60 k0_cond61 k0_cond62
  k0_cond63 k0_cond64 k0_dev1 k0_dev2 k0_dev3 k0_dev4 k0_dev5 k0_dev6 k0_dev7 k0_dev8 k0_dev9 k0_dev10 k0_dev11 k0_dev12 k0_dev13 k0_dev14 k0_dev15
  k0_dev16 k0_dev17 k0_dev18 k0_dev19 k0_dev20 k0_dev21 k0_dev22 k0_dev23 k0_dev24 k0_dev25 k0_dev26 k0_dev27 k0_dev28 k0_dev29 k0_dev30 k0_dev31
  k0_off1 k0_off2 k0_off3 k0_off4 k0_off5 k0_off6 k0_off7 k0_off8 k0_off9 k0_off10 k0_off11 k0_off12 k0_off13 k0_off14 k0_off15 k0_off16 k0_off17
  k0_off18 k0_off19 k0_off20 k0_off21 k0_off22 k0_off23 k0_off24 k0_off25 k0_off26 k0_off27 k0_off28 k0_off29 k0_off30 k0_off31 k0_off32 k0_off33
  k0_off34 k0_off35 k0_off36 k0_off37 k0_off38 k0_off39 k0_off40 k0_off41 k0_off42 k0_off43 k0_off44 k0_off45 k0_off46 k0_off47 k0_off48 k0_off49
  k0_off50 k0_off51 k0_off52 k0_off53 k0_off54 k0_off55 k0_off56 k0_off57 k0_off58 k0_off59 k0_off60 k0_off61 k0_off62 k0_off63 k0_off64 k0_off65

variable (m : (ℓ : Loc nD τ sig) → Buf (Elt F) ℓ) (ρ : Dev nD → PrngReg)
variable (K : Dev nD × CK → ℕ)

/-- What a device holds when the kernel begins. -/
def Start (c : Dev nD) : sProp 𝕄 :=
  iprop(SigSt (F := F) c 1 ∗ cred (tallyAt (barCell c) () 15) ∗ atPos ER (barCell c) 0 ∅ 0
    ∗ (((c : Thread nD τ).loc cc0_stg0_0) ↦{fullShare} (xstg m ρ c))
    ∗ LIdle (F := F) c 0 ∗ LIdle (F := F) c 1 ∗ aAll m c
    ∗ (∃ f, oPts (F := F) c c f) ∗ (bigSep Finset.univ fun s => iprop(∃ f, yPts (F := F) c s f))
    ∗ (bigSep Finset.univ fun p : Dev nD => dutyTok ER (recvCell p c) 0 c)
    ∗ (bigSep Finset.univ fun s : Fin 16 => dutyTok ER (sendCell c s) 0 c)
    ∗ bigSep Finset.univ (RPre (F := F) c) ∗ bigSep Finset.univ fun s : Fin 16 => atPos ER (sendCell c s) 0 ∅ 0)

/-- What it holds when the kernel ends. -/
def Finish (c : Dev nD) : sProp 𝕄 :=
  iprop(semVal (barCell c) 0 ∗ (((c : Thread nD τ).loc cc0_stg0_0) ↦{fullShare} (xstg m ρ c))
    ∗ LIdle (F := F) c 0 ∗ LIdle (F := F) c 1 ∗ aAll m c ∗ bigSep Finset.univ (RPost m ρ c) ∗ Sends m ρ c 16)

/-- After the entry wait a device holds its rows of every result, one for each slot. -/
theorem enter_slots (c : Dev nD) :
    iprop(Owe (F := F) c (owedSlots c 0) ∗ (bigSep (Finset.univ.erase c) fun p => barPay (F := F) c p) ∗ (∃ f, oPts (F := F) c c f)
      ∗ (bigSep Finset.univ fun s => iprop(∃ f, yPts (F := F) c s f))
      ∗ (bigSep Finset.univ fun p : Dev nD => dutyTok ER (recvCell p c) 0 c)
      ∗ (bigSep Finset.univ fun s : Fin 16 => dutyTok ER (sendCell c s) 0 c))
    ⊢ Slots m ρ c 0 := by
  unfold Slots
  rw [fromS_zero, uptoS_zero, bigSep_empty,
    show (bigSep Finset.univ (Pre (F := F) c) : sProp 𝕄) = iprop((bigSep Finset.univ fun s => iprop(∃ f, yPts (F := F) c s f))
        ∗ (bigSep Finset.univ fun s => iprop(∃ f, oPts (F := F) (dst c s) c f))
        ∗ (bigSep Finset.univ fun s : Fin 16 => dutyTok ER (recvCell (dst c s) c) 0 c)
        ∗ (bigSep Finset.univ fun s : Fin 16 => dutyTok ER (sendCell c s) 0 c)) by
      rw [← bigSep_sep', ← bigSep_sep', ← bigSep_sep']; rfl,
    BI.bigSep_univ_equiv (slots c) (fun p : Dev nD => (dutyTok ER (recvCell p c) 0 c : sProp 𝕄)),
    show (bigSep Finset.univ fun s => iprop(∃ f, oPts (F := F) (dst c s) c f) : sProp 𝕄) = bigSep Finset.univ fun p => iprop(∃ f, oPts (F := F) p c f) from
      (BI.bigSep_univ_equiv (slots c) (fun p : Dev nD => (iprop(∃ f, oPts (F := F) p c f) : sProp 𝕄))).symm,
    bigSep_univ_at (fun p : Dev nD => (iprop(∃ f, oPts (F := F) p c f) : sProp 𝕄)) c]
  iintro ⟨HO, HB, Hown, Hy, Hr, Hs⟩
  isplitl [HO]; · iexact HO
  isplitl
  · isplitl [Hy]; · iexact Hy
    isplitl [Hown HB]
    · isplitl [Hown]; · iexact Hown
      unfold barPay; iexact HB
    isplitl [Hr]; · iexact Hr
    iexact Hs
  · iempintro

/-- The kernel runs from what a device enters with to what it leaves with. -/
theorem body_run (K : Dev nD × CK → ℕ) (c : Dev nD) {Q : _ → sProp 𝕄} :
    iprop(ctx m ρ K ∗ Start m ρ c)
      ⊢ iprop((Finish m ρ c -∗ Q ⟨⟩)
      -∗ WP c (cc0_body xM (Memref.isWhole_whole _) aM (Memref.isWhole_whole _) oM (Memref.isWhole_whole _)
        wM (Memref.isWhole_whole _) yM (Memref.isWhole_whole _) cc0_scratch2 cc0_scratch3 cc0_scratch4) Q) := by
  rw [cc0_body_eq_skeleton]; unfold cc0_body_skel Start WP
  iintro ⟨#HC, HS, Hcr, Hat, Hx, HI0, HI1, HA, Hown, Hy, Htr, Hts, HR, Has⟩
  iintro Hk
  rw [wp_bind]
  iapply (part1 m ρ K c) $$ [HS]
  · isplitr; · iexact HC
    iexact HS
  iintro %v3 %v4 HS
  try dsimp (config := {zeta := false, zetaHave := false}) only []
  rw [wp_bind]
  iapply (part2 m ρ K c) $$ [HS]
  · isplitr; · iexact HC
    iexact HS
  iintro HS
  try dsimp (config := {zeta := false, zetaHave := false}) only []
  rw [wp_bind]
  iapply (part3 m ρ K c) $$ [HS Hcr Hat Hx]
  · isplitr; · iexact HC
    isplitl [HS]; · iexact HS
    isplitl [Hcr]; · iexact Hcr
    isplitl [Hat]; · iexact Hat
    iexact Hx
  iintro ⟨HO, Hz, HB, Hx⟩
  try dsimp (config := {zeta := false, zetaHave := false}) only []
  ihave HS := (enter_slots m ρ c) $$ [HO HB Hown Hy Htr Hts]
  · isplitl [HO]; · iexact HO
    isplitl [HB]; · iexact HB
    isplitl [Hown]; · iexact Hown
    isplitl [Hy]; · iexact Hy
    isplitl [Htr]; · iexact Htr
    iexact Hts
  rw [wp_bind]
  iapply (part4 m ρ K c) $$ [HI0 HI1 HA HS]
  · isplitr; · iexact HC
    isplitl [HI0]; · iexact HI0
    isplitl [HI1]; · iexact HI1
    isplitl [HA]; · iexact HA
    iexact HS
  iintro %v78 ⟨HI, HF, HS⟩
  try dsimp (config := {zeta := false, zetaHave := false}) only []
  rw [wp_bind]
  iapply (part5 m ρ K c (fill0 m ρ c) (fill1 m ρ c)) $$ [HS]
  · isplitr; · iexact HC
    iexact HS
  iintro %w5 HS
  try dsimp (config := {zeta := false, zetaHave := false}) only []
  rw [wp_bind]
  iapply (part6 m ρ K c) $$ [HI HF HS]
  · isplitr; · iexact HC
    isplitl [HI]; · iexact HI
    isplitl [HF]; · iexact HF
    iexact HS
  iintro %v138 ⟨HI, HF, HS⟩
  try dsimp (config := {zeta := false, zetaHave := false}) only []
  rw [wp_bind]
  iapply (part7 m ρ K c (fill2 m ρ c) (fill3 m ρ c)) $$ [HS]
  · isplitr; · iexact HC
    iexact HS
  iintro %w7 HS
  try dsimp (config := {zeta := false, zetaHave := false}) only []
  rw [wp_bind]
  iapply (part8 m ρ K c) $$ [HI HF HS]
  · isplitr; · iexact HC
    isplitl [HI]; · iexact HI
    isplitl [HF]; · iexact HF
    iexact HS
  iintro %v233 ⟨HI, HF, HS⟩
  try dsimp (config := {zeta := false, zetaHave := false}) only []
  rw [wp_bind]
  iapply (part9 m ρ K c (fill4 m ρ c) (fill5 m ρ c)) $$ [HS]
  · isplitr; · iexact HC
    iexact HS
  iintro %w9 HS
  try dsimp (config := {zeta := false, zetaHave := false}) only []
  rw [wp_bind]
  iapply (part10 m ρ K c) $$ [HI HF HS]
  · isplitr; · iexact HC
    isplitl [HI]; · iexact HI
    isplitl [HF]; · iexact HF
    iexact HS
  iintro %v294 ⟨HI, HF, HS⟩
  try dsimp (config := {zeta := false, zetaHave := false}) only []
  rw [wp_bind]
  iapply (part11 m ρ K c (fill6 m ρ c) (fill7 m ρ c)) $$ [HS]
  · isplitr; · iexact HC
    iexact HS
  iintro %w11 HS
  try dsimp (config := {zeta := false, zetaHave := false}) only []
  rw [wp_bind]
  iapply (part12 m ρ K c) $$ [HI HF HS]
  · isplitr; · iexact HC
    isplitl [HI]; · iexact HI
    isplitl [HF]; · iexact HF
    iexact HS
  iintro %v354 %v359 %v360 ⟨HI, HF, HS⟩
  try dsimp (config := {zeta := false, zetaHave := false}) only []
  rw [wp_bind]
  iapply (part13 m ρ K c (fill9 m ρ c)) $$ [HF HS]
  · isplitr; · iexact HC
    isplitl [HF]; · iexact HF
    iexact HS
  iintro %w13 ⟨HD, HA, HS⟩
  try dsimp (config := {zeta := false, zetaHave := false}) only []
  rw [wp_bind]
  iapply (part14 m ρ K c) $$ [HI HD HA HS]
  · isplitr; · iexact HC
    isplitl [HI]; · iexact HI
    isplitl [HD]; · iexact HD
    isplitl [HA]; · iexact HA
    iexact HS
  iintro %v414 %v419 %v423 ⟨HI, HF, HS⟩
  try dsimp (config := {zeta := false, zetaHave := false}) only []
  rw [wp_bind]
  iapply (part15 m ρ K c (fill11 m ρ c)) $$ [HF HS]
  · isplitr; · iexact HC
    isplitl [HF]; · iexact HF
    iexact HS
  iintro %w15 ⟨HD, HA, HS⟩
  try dsimp (config := {zeta := false, zetaHave := false}) only []
  rw [wp_bind]
  iapply (part16 m ρ K c) $$ [HI HD HA HS]
  · isplitr; · iexact HC
    isplitl [HI]; · iexact HI
    isplitl [HD]; · iexact HD
    isplitl [HA]; · iexact HA
    iexact HS
  iintro %v479 %w16 ⟨HI, HF, HS⟩
  try dsimp (config := {zeta := false, zetaHave := false}) only []
  rw [wp_bind]
  iapply (part17 m ρ K c (fill13 m ρ c)) $$ [HF HS]
  · isplitr; · iexact HC
    isplitl [HF]; · iexact HF
    iexact HS
  iintro %v491 %v498 ⟨HI1, HA, HS⟩
  try dsimp (config := {zeta := false, zetaHave := false}) only []
  rw [wp_bind]
  iapply (part18 m ρ K c (fill14 m ρ c) (fill15 m ρ c)) $$ [HS]
  · isplitr; · iexact HC
    iexact HS
  iintro %w18 HS
  try dsimp (config := {zeta := false, zetaHave := false}) only []
  rw [wp_bind]
  iapply (part19 m ρ K c) $$ [HS HR]
  · isplitr; · iexact HC
    isplitl [HS]; · iexact HS
    iexact HR
  iintro ⟨HP, HR⟩
  try dsimp (config := {zeta := false, zetaHave := false}) only []
  rw [wp_bind]
  iapply (part20 m ρ K c) $$ [HR]
  · isplitr; · iexact HC
    iexact HR
  iintro HR
  try dsimp (config := {zeta := false, zetaHave := false}) only []
  rw [wp_bind]
  iapply (part21 m ρ K c) $$ [HR HP Has]
  · isplitr; · iexact HC
    isplitl [HR]; · iexact HR
    isplitl [HP]; · iexact HP
    iexact Has
  iintro %w21 ⟨HR, HS⟩
  try dsimp (config := {zeta := false, zetaHave := false}) only []
  rw [wp_bind]
  iapply (part22 m ρ K c) $$ [HS]
  · isplitr; · iexact HC
    iexact HS
  iintro HS
  try dsimp (config := {zeta := false, zetaHave := false}) only []
  simp (config := {zetaHave := false}) only [Prog.lift, Prog.bind_op, Prog.bind_ret, Prog.pure_eq_ret]
  try extract_lets
  iapply (wp_sent m ρ K c 11 (n := 11) (n' := 12) rfl rfl (slot11 c).2.2.2 (slice_send 11 rfl) rfl) $$ [HS]
  · isplitr; · iexact HC
    iexact HS
  iintro HS
  iapply (wp_sent m ρ K c 12 (n := 12) (n' := 13) rfl rfl (slot12 c).2.2.2 (slice_send 12 rfl) rfl) $$ [HS]
  · isplitr; · iexact HC
    iexact HS
  iintro HS
  iapply (wp_sent m ρ K c 13 (n := 13) (n' := 14) rfl rfl (slot13 c).2.2.2 (slice_send 13 rfl) rfl) $$ [HS]
  · isplitr; · iexact HC
    iexact HS
  iintro HS
  iapply (wp_sent m ρ K c 14 (n := 14) (n' := 15) rfl rfl (slot14 c).2.2.2 (slice_send 14 rfl) rfl) $$ [HS]
  · isplitr; · iexact HC
    iexact HS
  iintro HS
  iapply (wp_sent m ρ K c 15 (n := 15) (n' := 16) rfl rfl (slot15 c).2.2.2 (slice_send 15 rfl) rfl) $$ [HS]
  · isplitr; · iexact HC
    iexact HS
  iintro HS
  iapply (wp_done c)
  iapply Hk
  unfold Finish
  isplitl [Hz]; · iexact Hz
  isplitl [Hx]; · iexact Hx
  isplitl [HI]; · iexact HI
  isplitl [HI1]; · iexact HI1
  isplitl [HA]; · iexact HA
  isplitl [HR]; · iexact HR
  iexact HS

end Cert.KProof

end
-- ==== Proof.Buffers.lean ====
/-
# Cutting buffers into blocks and putting them together

The result buffer is cut into the rows of its sixteen senders, the result scratch into sixteen slots, the double buffer
into two halves; at the end all are whole again.
-/
module

public import proofs.«01_k».proof.Proof.Body

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-- The rows of two senders do not overlap, -/
theorem oRect_disjoint (b b' : Fin 16) (h : b ≠ b') : Disjoint (oRect b).set (oRect b').set := by
  refine Finset.disjoint_left.mpr fun i hi hi' => h (Fin.ext ?_)
  have h1 := Rect.mem_set_unit.mp hi 0
  have h2 := Rect.mem_set_unit.mp hi' 0
  have e1 : 128 * b.val ≤ (i 0).val ∧ (i 0).val < 128 * b.val + 128 := h1
  have e2 : 128 * b'.val ≤ (i 0).val ∧ (i 0).val < 128 * b'.val + 128 := h2
  omega
/-- and the sixteen make up the result. -/
theorem oRect_cover : (Finset.univ : Finset (Fin 16)).biUnion (fun b => (oRect b).set) = Finset.univ := by
  ext i
  simp only [Finset.mem_biUnion, Finset.mem_univ, true_and, iff_true]
  have h0 : (i 0).val < 2048 := (i 0).isLt
  refine ⟨⟨(i 0).val / 128, by omega⟩, Rect.mem_set_unit.mpr fun a => ?_⟩
  fin_cases a
  · show 128 * ((i 0).val / 128) ≤ (i 0).val ∧ (i 0).val < 128 * ((i 0).val / 128) + 128
    omega
  · exact ⟨Nat.zero_le _, (show (i 1).val < 0 + 128 by have := (i 1).isLt; rw [Nat.zero_add]; exact this)⟩

/-- Two slots do not overlap, -/
theorem yRect_disjoint (b b' : Fin 16) (h : b ≠ b') : Disjoint (yRect b).set (yRect b').set := by
  refine Finset.disjoint_left.mpr fun i hi hi' => h (Fin.ext ?_)
  have h1 := Rect.mem_set_unit.mp hi 0
  have h2 := Rect.mem_set_unit.mp hi' 0
  have e1 : b.val ≤ (i 0).val ∧ (i 0).val < b.val + 1 := h1
  have e2 : b'.val ≤ (i 0).val ∧ (i 0).val < b'.val + 1 := h2
  omega
/-- and the sixteen make up the scratch. -/
theorem yRect_cover : (Finset.univ : Finset (Fin 16)).biUnion (fun b => (yRect b).set) = Finset.univ := by
  ext i
  simp only [Finset.mem_biUnion, Finset.mem_univ, true_and, iff_true]
  have h0 : (i 0).val < 16 := (i 0).isLt
  refine ⟨⟨(i 0).val / 1, by omega⟩, Rect.mem_set_unit.mpr fun a => ?_⟩
  fin_cases a
  · show (i 0).val / 1 ≤ (i 0).val ∧ (i 0).val < (i 0).val / 1 + 1
    omega
  · exact ⟨Nat.zero_le _, (show (i 1).val < 0 + 128 by have := (i 1).isLt; rw [Nat.zero_add]; exact this)⟩
  · exact ⟨Nat.zero_le _, (show (i 2).val < 0 + 128 by have := (i 2).isLt; rw [Nat.zero_add]; exact this)⟩

/-- The halves do not overlap, -/
theorem wRect_disjoint (b b' : Fin 2) (h : b ≠ b') : Disjoint (wRect b).set (wRect b').set := by
  refine Finset.disjoint_left.mpr fun i hi hi' => h (Fin.ext ?_)
  have h1 := Rect.mem_set_unit.mp hi 0
  have h2 := Rect.mem_set_unit.mp hi' 0
  have e1 : b.val ≤ (i 0).val ∧ (i 0).val < b.val + 1 := h1
  have e2 : b'.val ≤ (i 0).val ∧ (i 0).val < b'.val + 1 := h2
  omega
/-- and make up the double buffer. -/
theorem wRect_cover : (Finset.univ : Finset (Fin 2)).biUnion (fun b => (wRect b).set) = Finset.univ := by
  ext i
  simp only [Finset.mem_biUnion, Finset.mem_univ, true_and, iff_true]
  have h0 : (i 0).val < 2 := (i 0).isLt
  refine ⟨⟨(i 0).val / 1, by omega⟩, Rect.mem_set_unit.mpr fun a => ?_⟩
  fin_cases a
  · show (i 0).val / 1 ≤ (i 0).val ∧ (i 0).val < (i 0).val / 1 + 1
    omega
  · exact ⟨Nat.zero_le _, (show (i 1).val < 0 + 2048 by have := (i 1).isLt; rw [Nat.zero_add]; exact this)⟩
  · exact ⟨Nat.zero_le _, (show (i 2).val < 0 + 256 by have := (i 2).isLt; rw [Nat.zero_add]; exact this)⟩

/-- The rows of the result that sender `p` fills, as a set of indices; -/
abbrev oSet (p : Fin 16) : Finset S2048x128.Idx := (oRect p).set
/-- slot `s` of the result scratch; -/
abbrev ySet (s : Fin 16) : Finset S16x128x128.Idx := (yRect s).set
/-- half `k` of the double buffer. -/
abbrev wSet (k : Fin 2) : Finset S2x2048x256.Idx := (wRect k).set
/-- The same, of the sets of entries: of the result, -/
theorem oSet_cover : (Finset.univ : Finset (Fin 16)).biUnion oSet = Finset.univ := oRect_cover
/-- of the scratch, -/
theorem ySet_cover : (Finset.univ : Finset (Fin 16)).biUnion ySet = Finset.univ := yRect_cover
/-- of the double buffer. -/
theorem wSet_cover : (Finset.univ : Finset (Fin 2)).biUnion wSet = Finset.univ := wRect_cover

/-- The result buffer, cut into the rows of its senders. -/
theorem out_cut (c : Dev nD) (f : Buf (Elt F) ((c : Thread nD τ).loc cc0_stg1_0)) :
    (((c : Thread nD τ).loc cc0_stg1_0) ↦{fullShare} f : sProp 𝕄) = bigSep Finset.univ fun p => oPts c p f :=
  Ring.pointsTo_blocks (Ix := Unit) (Name := ℕ) (U := UU) (Lvl := ℕ) (q := fullShare) (ℓ := (c : Thread nD τ).loc cc0_stg1_0) oSet oRect_disjoint oSet_cover f

/-- The result buffer cut, the device's own rows apart. -/
theorem out_open (c : Dev nD) :
    iprop(∃ f, (((c : Thread nD τ).loc cc0_stg1_0) ↦{fullShare} f))
      ⊢ (iprop((∃ f, oPts (F := F) c c f) ∗ bigSep (Finset.univ.erase c) fun p => iprop(∃ f, oPts (F := F) c p f)) : sProp 𝕄) := by
  rw [← bigSep_univ_at (fun p => (iprop(∃ f, oPts (F := F) c p f) : sProp 𝕄)) c]
  iintro ⟨%f, H⟩
  iapply ((Entails.of_eq (out_cut c f)).trans (bigSep_mono fun p _ => show (oPts c p f : sProp 𝕄) ⊢ iprop(∃ f, oPts (F := F) c p f) by
    iintro H; iexists f; iexact H))
  iexact H

/-- The scratch is taken apart into its slots -/
theorem scratch_open (c : Dev nD) :
    iprop(∃ f, (((c : Thread nD τ).loc cc0_scratch1) ↦{fullShare} f))
      ⊢ (bigSep Finset.univ fun s => iprop(∃ f, yPts (F := F) c s f) : sProp 𝕄) := by
  iintro ⟨%f, H⟩
  iapply ((Entails.of_eq (Ring.pointsTo_blocks (Ix := Unit) (Name := ℕ) (U := UU) (Lvl := ℕ) (q := fullShare) (ℓ := (c : Thread nD τ).loc cc0_scratch1) ySet yRect_disjoint ySet_cover f)).trans
    (bigSep_mono fun s _ => show (yPts c s f : sProp 𝕄) ⊢ iprop(∃ f, yPts (F := F) c s f) by iintro H; iexists f; iexact H))
  iexact H

/-- and put together again. -/
theorem scratch_close (c : Dev nD) (f₀ : Buf (Elt F) ((c : Thread nD τ).loc cc0_scratch1)) :
    (bigSep Finset.univ fun s => iprop(∃ f, yPts (F := F) c s f) : sProp 𝕄)
      ⊢ iprop(∃ f, (((c : Thread nD τ).loc cc0_scratch1) ↦{fullShare} f)) :=
  Ring.pointsTo_blocks_join_exists (Ix := Unit) (Name := ℕ) (U := UU) (Lvl := ℕ) (q := fullShare) (ℓ := (c : Thread nD τ).loc cc0_scratch1) ySet yRect_disjoint ySet_cover f₀

/-- A family of two. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The double buffer is taken apart into its halves -/
theorem halves_open (c : Dev nD) :
    iprop(∃ f, (((c : Thread nD τ).loc cc0_scratch0) ↦{fullShare} f))
      ⊢ (iprop((∃ f, wPts (F := F) c 0 f) ∗ ∃ f, wPts (F := F) c 1 f) : sProp 𝕄) := by
  iintro ⟨%f, H⟩
  ihave H2 := (Entails.of_eq ((Ring.pointsTo_blocks (Ix := Unit) (Name := ℕ) (U := UU) (Lvl := ℕ) (q := fullShare) (ℓ := (c : Thread nD τ).loc cc0_scratch0) wSet wRect_disjoint wSet_cover f).trans (bigSep_fin2 _))) $$ H
  icases H2 with ⟨H0, H1⟩
  isplitl [H0]
  · iexists f; iexact H0
  · iexists f; iexact H1

/-- and put together again. -/
theorem halves_close (c : Dev nD) (f₀ : Buf (Elt F) ((c : Thread nD τ).loc cc0_scratch0)) :
    (iprop((∃ f, wPts (F := F) c 0 f) ∗ ∃ f, wPts (F := F) c 1 f) : sProp 𝕄)
      ⊢ iprop(∃ f, (((c : Thread nD τ).loc cc0_scratch0) ↦{fullShare} f)) :=
  (Entails.of_eq (bigSep_fin2 (fun k : Fin 2 => (iprop(∃ f, wPts (F := F) c k f) : sProp 𝕄))).symm).trans
    (Ring.pointsTo_blocks_join_exists (Ix := Unit) (Name := ℕ) (U := UU) (Lvl := ℕ) (q := fullShare) (ℓ := (c : Thread nD τ).loc cc0_scratch0) wSet wRect_disjoint wSet_cover f₀)

/-- The rows received from the other devices and the device's own make the result. -/
theorem out_close (c : Dev nD) :
    iprop((bigSep Finset.univ fun s : Fin 16 => if s = c then iprop(emp) else oPts c s (outFull m ρ c))
      ∗ bigSep Finset.univ fun s : Fin 16 => if dst c s = c then oPts c c (outFull m ρ c) else iprop(emp))
      ⊢ (((c : Thread nD τ).loc cc0_stg1_0) ↦{fullShare} (outFull m ρ c) : sProp 𝕄) := by
  rw [out_cut, bigSep_univ_at (fun s : Fin 16 => (if s = c then iprop(emp) else oPts c s (outFull m ρ c) : sProp 𝕄)) c,
    bigSep_univ_at (fun p : Fin 16 => (oPts c p (outFull m ρ c) : sProp 𝕄)) c]
  iintro ⟨⟨-, H⟩, Hown⟩
  isplitl [Hown]
  · iapply ((bigSep_get (F := F) (Finset.mem_univ (slotOf c c))
      (Φ := fun s : Fin 16 => (if dst c s = c then oPts c c (outFull m ρ c) else iprop(emp) : sProp 𝕄))).trans
      (Entails.of_eq (if_pos (dst_slotOf c c))))
    iexact Hown
  · iapply (Entails.of_eq (bigSep_congr (s := Finset.univ.erase c) fun s hs => if_neg (Finset.ne_of_mem_erase hs)))
    iexact H

/-! ## Entering and leaving -/

/-- The records and tokens of a device: its places in its cells' rounds and the tokens of the duties it pays. -/
def Own (c : Dev nD) : sProp 𝕄 :=
  iprop(atPos ER (barCell c) 0 ∅ 0 ∗ (bigSep Finset.univ fun s : Fin 16 => atPos ER (sendCell c s) 0 ∅ 0)
    ∗ (bigSep Finset.univ fun s : Fin 16 => atPos ER (recvCell c s) 0 ∅ 0)
    ∗ (bigSep Finset.univ fun p : Dev nD => dutyTok ER (barCell p) 0 c)
    ∗ (bigSep Finset.univ fun p : Dev nD => dutyTok ER (recvCell p c) 0 c)
    ∗ bigSep Finset.univ fun s : Fin 16 => dutyTok ER (sendCell c s) 0 c)

/-- The credits it is given: one unit of each other device's signal, and each other device's block. -/
def Creds (c : Dev nD) : sProp 𝕄 :=
  iprop(cred (tallyAt (barCell c) () 15) ∗ bigSep Finset.univ fun s : Fin 16 => if s = c then iprop(emp) else cred (tallyAt (recvCell c s) () N))

/-- What the launch gives a device, with its buffers taken apart, is what the body begins with. -/
theorem start_of (c : Dev nD) :
    iprop(Own (F := F) c ∗ Creds (F := F) c ∗ aAll m c
        ∗ (semVal (loadCell c 0) 0 ∗ semVal (loadCell c 1) 0)
        ∗ (∃ f, (((c : Thread nD τ).loc cc0_scratch0) ↦{fullShare} f)) ∗ (∃ f, (((c : Thread nD τ).loc cc0_scratch1) ↦{fullShare} f))
        ∗ Owe (F := F) c (O₀ c) ∗ (((c : Thread nD τ).loc cc0_stg0_0) ↦{fullShare} (xstg m ρ c)) ∗ (∃ f, (((c : Thread nD τ).loc cc0_stg1_0) ↦{fullShare} f)))
      ⊢ Start m ρ c := by
  unfold Own Creds Start SigSt LIdle O₀
  rw [sigSet_one, bigSep_sep', bigSep_univ_at (fun p : Dev nD => (dutyTok ER (barCell p) 0 c : sProp 𝕄)) c,
    show (bigSep Finset.univ (RPre (F := F) c) : sProp 𝕄) = iprop((bigSep Finset.univ fun s : Fin 16 => if s = c then iprop(emp) else cred (tallyAt (recvCell c s) () N))
      ∗ bigSep Finset.univ fun s : Fin 16 => atPos ER (recvCell c s) 0 ∅ 0) from (bigSep_sep' _ _ _)]
  iintro ⟨⟨Hat, Has, Har, ⟨-, Htb⟩, Htr, Hts⟩, ⟨Hcb, Hcr⟩, HA, ⟨Hz0, Hz1⟩, Hw, Hy, HO, Hx, Hout⟩
  ihave Ho := (out_open (F := F) c) $$ Hout
  icases Ho with ⟨Hown, Hrows⟩
  ihave Hw' := (halves_open (F := F) c) $$ Hw
  icases Hw' with ⟨Hw0, Hw1⟩
  ihave Hy' := (scratch_open (F := F) c) $$ Hy
  isplitl [HO Htb Hrows]
  · isplitl [HO]; · iexact HO
    isplitl [Htb]; · iexact Htb
    iexact Hrows
  isplitl [Hcb]; · iexact Hcb
  isplitl [Hat]; · iexact Hat
  isplitl [Hx]; · iexact Hx
  isplitl [Hw0 Hz0]; · isplitl [Hw0] <;> iassumption
  isplitl [Hw1 Hz1]; · isplitl [Hw1] <;> iassumption
  isplitl [HA]; · iexact HA
  isplitl [Hown]; · iexact Hown
  isplitl [Hy']; · iexact Hy'
  isplitl [Htr]; · iexact Htr
  isplitl [Hts]; · iexact Hts
  isplitl [Hcr Har]; · isplitl [Hcr] <;> iassumption
  iexact Has

/-- What a device is left with besides its windows: `w` and the scratch buffers whole, every semaphore at zero. -/
def Done (c : Dev nD) : sProp 𝕄 :=
  iprop(aAll m c ∗ (∃ f, (((c : Thread nD τ).loc cc0_scratch0) ↦{fullShare} f)) ∗ (∃ f, (((c : Thread nD τ).loc cc0_scratch1) ↦{fullShare} f))
    ∗ semVal (barCell c) 0 ∗ (semVal (loadCell c 0) 0 ∗ semVal (loadCell c 1) 0)
    ∗ (bigSep Finset.univ fun s : Fin 16 => semVal (sendCell c s) 0) ∗ bigSep Finset.univ fun s : Fin 16 => semVal (recvCell c s) 0)

/-- What the body ends with, the buffers put together, is what the launch takes back; the result holds `outFull`. -/
theorem finish_of (c : Dev nD) :
    Finish m ρ c ⊢ iprop(Done m c ∗ Owe (F := F) c 0 ∗ (((c : Thread nD τ).loc cc0_stg0_0) ↦{fullShare} (xstg m ρ c))
      ∗ (((c : Thread nD τ).loc cc0_stg1_0) ↦{fullShare} (outFull m ρ c))) := by
  unfold Finish Done Sends LIdle
  rw [uptoS_end,
    show (bigSep Finset.univ (RPost m ρ c) : sProp 𝕄) = iprop((bigSep Finset.univ fun s : Fin 16 => semVal (recvCell c s) 0)
      ∗ bigSep Finset.univ fun s : Fin 16 => if s = c then iprop(emp) else oPts c s (outFull m ρ c)) from bigSep_sep' _ _ _,
    show (bigSep Finset.univ (SPost m ρ c) : sProp 𝕄) = iprop((bigSep Finset.univ fun s : Fin 16 => semVal (sendCell c s) 0)
      ∗ (bigSep Finset.univ fun s => iprop(∃ f, yPts (F := F) c s f))
      ∗ bigSep Finset.univ fun s : Fin 16 => if dst c s = c then oPts c c (outFull m ρ c) else iprop(emp)) by
        rw [← bigSep_sep', ← bigSep_sep']; rfl]
  iintro ⟨Hz, Hx, ⟨⟨%f0, Hw0⟩, Hz0⟩, ⟨Hw1, Hz1⟩, HA, ⟨Hzr, Hor⟩, HO, -, Hzs, Hy, Hos⟩
  ihave Hw := (halves_close (F := F) c f0) $$ [Hw0 Hw1]
  · isplitl [Hw0]; · iexists f0; iexact Hw0
    iexact Hw1
  ihave Hout := (out_close m ρ c) $$ [Hor Hos]
  · isplitl [Hor] <;> iassumption
  isplitl [HA Hw Hy Hz Hz0 Hz1 Hzr Hzs]
  · isplitl [HA]; · iexact HA
    isplitl [Hw]; · iexact Hw
    isplitl [Hy]; · iapply (scratch_close (F := F) c (fun _ => Classical.arbitrary _)); iexact Hy
    isplitl [Hz]; · iexact Hz
    isplitl [Hz0 Hz1]; · isplitl [Hz0] <;> iassumption
    isplitl [Hzs]; · iexact Hzs
    iexact Hzr
  isplitl [HO]; · iexact HO
  isplitl [Hx]; · iexact Hx
  iexact Hout

end Cert.KProof

end
-- ==== Proof.Launch.lean ====
/-
# The launch

The run of the whole mesh: how the semaphores are shared out at launch, how much each device is owed, and the theorem
that every run ends with each device's result at `outFull` and every semaphore at zero.
-/
module

public import proofs.«01_k».proof.Proof.Buffers
public import proofs.«01_k».proof.Proof.Gen.KernelIdeal.Launch
public import Idealize.ShloMosaic.Lib.Pipeline.CollectiveSegs

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)
variable (K : Dev nD × CK → ℕ)

attribute [local irreducible] cc0_body

/-! ## The pipeline's proof data -/

/-- The grid has one point; -/
theorem cfg0_N : cfg0.N = 1 := by decide
/-- The one grid point. -/
def t₀ : Fin cfg0.N := ⟨0, by rw [cfg0_N]; decide⟩
/-- every grid point is that one. -/
theorem fin_N (t : Fin cfg0.N) : t = t₀ := by
  obtain ⟨t, ht⟩ := t; have := cfg0_N; exact Fin.ext (by simp only [t₀]; omega)

/-- The invariants of all cells and that each is at round 0. -/
def records (K : Dev nD × CK → ℕ) : sProp 𝕄 :=
  iprop((bigSep Finset.univ fun x : Dev nD × CK => cellInv ER (ringRd m ρ) (K x) (kcell x))
    ∗ bigSep Finset.univ fun x : Dev nD × CK => reached ER (kcell x) 0)

/-- These facts may be used again and again. -/
instance records_persistent (K : Dev nD × CK → ℕ) : BI.Persistent (records m ρ K) := by unfold records; infer_instance

/-- A device's load semaphores at zero. -/
def Loads (c : Dev nD) : sProp 𝕄 := iprop(semVal (loadCell c 0) 0 ∗ semVal (loadCell c 1) 0)

/-- What the launch makes for device `c`. -/
def G' (c : Dev nD) : sProp 𝕄 := iprop((∃ K, records m ρ K) ∗ Own (F := F) c ∗ Loads (F := F) c)

/-- What device `c`'s kernel starts from besides its buffers. -/
def start (c : Dev nD) : sProp 𝕄 := iprop(G' m ρ c ∗ Creds (F := F) c ∗ levAts L lv ∗ aAll m c)

/-- Before the point. -/
def Φ₀ (c : Dev nD) : sProp 𝕄 :=
  iprop(start m ρ c ∗ (∃ f, (((c : Thread nD τ).loc cc0_scratch0) ↦{fullShare} f)) ∗ ∃ f, (((c : Thread nD τ).loc cc0_scratch1) ↦{fullShare} f))

/-- The proof data of the pipeline on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outFull m ρ c
  Φ t := match t with
    | ⟨0, _⟩ => Φ₀ m ρ c
    | ⟨_ + 1, _⟩ => Done m c
  q _ := fullShare
  owed t := match t with
    | ⟨0, _⟩ => O₀ c
    | ⟨_ + 1, _⟩ => 0

/-- A family over the two windows. -/
theorem bigSep_W (Φ : Fin cfg0.W → sProp 𝕄) : bigSep Finset.univ Φ = iprop(Φ (0 : Fin 2) ∗ Φ (1 : Fin 2)) := bigSep_W0 Φ

/-- The block of `x` is fetched at every grid point. -/
theorem fetch_0 (t : Fin cfg0.N) : (cfg0.win (0 : Fin 2)).fetch t = true := by rw [fin_N t]; rfl

/-- To own a whole buffer at contents `X` is to have its entries at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the kernel at the point; -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- what it takes back. -/
def bodyPost (c : Dev nD) : sProp 𝕄 :=
  iprop(Done m c ∗ (dats m ρ 0 c).owesAt () t₀.succ ∗ stg c cc0_stg0_0 (xstg m ρ c) ∗ stg c cc0_stg1_0 (outFull m ρ c))

/-- The kernel at the point. -/
theorem sound_body (c : Dev nD) :
    bodyPre m ρ c ⊢ WP c (cc0_body (F := F) xM (Memref.isWhole_whole _) aM (Memref.isWhole_whole _) oM (Memref.isWhole_whole _)
        wM (Memref.isWhole_whole _) yM (Memref.isWhole_whole _) cc0_scratch2 cc0_scratch3 cc0_scratch4) (fun _ => bodyPost m ρ c) := by
  unfold bodyPre Φ₀ start G'
  iintro ⟨⟨⟨⟨⟨%K, #HR⟩, Hown, Hld⟩, Hcr, #Hlev, HA⟩, Hw, Hy⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave #HC := (show iprop(records m ρ K ∗ levAts L lv) ⊢ ctx m ρ K by
    unfold records ctx; iintro ⟨⟨#H1, #H2⟩, #H3⟩
    isplitr; · iexact H1
    isplitr; · iexact H2
    iexact H3) $$ []
  · isplitr; · iexact HR
    iexact Hlev
  ihave HS := (start_of m ρ c) $$ [Hown Hcr HA Hld Hw Hy HO Hx Hout]
  · isplitl [Hown]; · iexact Hown
    isplitl [Hcr]; · iexact Hcr
    isplitl [HA]; · iexact HA
    isplitl [Hld]; · unfold Loads; iexact Hld
    isplitl [Hw]; · iexact Hw
    isplitl [Hy]; · iexact Hy
    isplitl [HO]; · unfold Owe; iexists W; iexact HO
    isplitl [Hx]; · iexact Hx
    iexists g1; iexact Hout
  iapply (body_run m ρ K c) $$ [HS]
  · isplitr; · iexact HC
    iexact HS
  iintro HF
  ihave HF' := (finish_of m ρ c) $$ HF
  unfold Owe
  icases HF' with ⟨HD, ⟨%W', HO⟩, Hx, Hout⟩
  unfold bodyPost Dat.owesAt Pipeline.owesWithin
  rw [show (dats m ρ 0 c).owed t₀.succ = 0 from rfl]
  isplitl [HD]; · iexact HD
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) aM (Memref.isWhole_whole _) oM (Memref.isWhole_whole _)
        wM (Memref.isWhole_whole _) yM (Memref.isWhole_whole _) cc0_scratch2 cc0_scratch3 cc0_scratch4) (fun _ => bodyPost m ρ c)
  exact sound_body m ρ c

/-! ## Sharing out at launch -/

/-- The kernel's own scoped semaphores: two load, sixteen send, sixteen receive. -/
def osem : Fin 2 ⊕ (Fin 16 ⊕ Fin 16) → SemLoc sig
  | .inl k => .dma (loadQ k)
  | .inr (.inl s) => .dma (sendQ s)
  | .inr (.inr s) => .dma (recvQ s)

/-- The kernel's own semaphores are its scratch semaphores, each once. -/
theorem ownSemFacts : Pipeline.OwnSemFacts cfg0.spec osem := by decide +kernel

/-- Every window is held whole. -/
theorem share_eq (c : Dev nD) (w : Fin cfg0.W) : (dats m ρ 0 c).share w = fullShare := by unfold Dat.share; split <;> rfl

/-- Different cells of a device have different semaphores; -/
theorem csem_injective : Function.Injective csem := by
  intro k k' h
  rcases k with ⟨⟨⟩⟩ | s | s <;> rcases k' with ⟨⟨⟩⟩ | s' | s' <;> simp only [csem] at h
  · rfl
  · exact absurd h.symm (dma_ne_bar _)
  · exact absurd h.symm (dma_ne_bar _)
  · exact absurd h (dma_ne_bar _)
  · have := congrArg sendIdx h; rw [sendIdx_send, sendIdx_send] at this; rw [Option.some.inj this]
  · have := congrArg sendIdx h; rw [sendIdx_send, sendIdx_recv] at this; exact absurd this (by simp)
  · exact absurd h (dma_ne_bar _)
  · have := congrArg sendIdx h; rw [sendIdx_send, sendIdx_recv] at this; exact absurd this (by simp)
  · have := congrArg recvIdx h; rw [recvIdx_recv, recvIdx_recv] at this; rw [Option.some.inj this]

/-- different indices are different cells; -/
theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- All cells of the kernel's rounds. -/
def ringCells : Finset (GSem nD τ sig) := Finset.univ.map ⟨kcell, kcell_injective⟩

/-- The tokens device `c` pays with: every device's barrier, its block at every device, its own sends. -/
def tokOf (x : Dev nD × (Fin 16 ⊕ (Fin 16 ⊕ Fin 16))) : GSem nD τ sig × ℕ × Dev nD := match x.2 with
  | .inl p => (barCell p, 0, x.1)
  | .inr (.inl p) => (recvCell p x.1, 0, x.1)
  | .inr (.inr s) => (sendCell x.1 s, 0, x.1)

/-- and no duty is listed twice. -/
theorem tokOf_injective : Function.Injective tokOf := by
  rintro ⟨c, k⟩ ⟨c', k'⟩ h
  have h1 : c = c' := by
    have := congrArg (fun x : GSem nD τ sig × ℕ × Dev nD => x.2.2) h
    rcases k with p | p | s <;> rcases k' with p' | p' | s' <;> exact this
  subst h1
  have hd : (tokOf (c, k)).1.1.1 = (tokOf (c, k')).1.1.1 := congrArg (fun x : GSem nD τ sig × ℕ × Dev nD => x.1.1.1) h
  have hs : (tokOf (c, k)).1.2 = (tokOf (c, k')).1.2 := congrArg (fun x : GSem nD τ sig × ℕ × Dev nD => x.1.2) h
  rcases k with p | p | s <;> rcases k' with p' | p' | s' <;> simp only [tokOf] at hd hs
  · rw [show p = p' from hd]
  · exact absurd hs.symm (dma_ne_bar _)
  · exact absurd hs.symm (dma_ne_bar _)
  · exact absurd hs (dma_ne_bar _)
  · rw [show p = p' from hd]
  · have := congrArg sendIdx hs; rw [sendIdx_send, sendIdx_recv] at this; exact absurd this (by simp)
  · exact absurd hs (dma_ne_bar _)
  · have := congrArg sendIdx hs; rw [sendIdx_send, sendIdx_recv] at this; exact absurd this (by simp)
  · have := congrArg sendIdx hs; rw [sendIdx_send, sendIdx_send] at this; rw [Option.some.inj this]

/-- All tokens. -/
def ringToks : Finset (GSem nD τ sig × ℕ × Dev nD) := Finset.univ.map ⟨tokOf, tokOf_injective⟩

/-- The launch element. -/
def u₀ : UU :=
  (initOf (Pipeline.cells cfgs cellOf_inj) (Pipeline.launchToks cfgs cellOf_inj), (initOf ringCells ringToks, 1))

/-- The tokens of device `c`. -/
def toks (c : Dev nD) : sProp 𝕄 :=
  iprop((bigSep Finset.univ fun p : Dev nD => dutyTok ER (barCell p) 0 c)
    ∗ (bigSep Finset.univ fun p : Dev nD => dutyTok ER (recvCell p c) 0 c)
    ∗ bigSep Finset.univ fun s : Fin 16 => dutyTok ER (sendCell c s) 0 c)

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- A family over a sum is a family over each side. -/
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

/-- A family over a device's cells: the barrier's part, the send cells', the receive cells'. -/
theorem bigSep_CK (Φ : CK → sProp 𝕄) : bigSep Finset.univ Φ
    = iprop(Φ (.inl ()) ∗ (bigSep Finset.univ fun s : Fin 16 => Φ (.inr (.inl s))) ∗ bigSep Finset.univ fun s : Fin 16 => Φ (.inr (.inr s))) := by
  rw [bigSep_sum, bigSep_sum, show (bigSep Finset.univ fun a : Unit => Φ (.inl a)) = Φ (.inl ()) from
    bigSep_univ_eq_bigSepL [()] (by decide) (by decide) _]

/-- The initial rounds are shared out to the devices that own the cells and to those that pay. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_sum, bigSep_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The scoped semaphores at zero, by kind. -/
theorem ownSems0_eq (c : Dev nD) : (Pipeline.ownSems0 (Ix := Unit) (Name := ℕ) (U := UU) (Lvl := ℕ) (Val := Elt F) (τ := τ) osem c : sProp 𝕄)
    = iprop(Loads (F := F) c ∗ (bigSep Finset.univ fun s : Fin 16 => semVal (sendCell c s) 0) ∗ bigSep Finset.univ fun s : Fin 16 => semVal (recvCell c s) 0) := by
  unfold Pipeline.ownSems0 Loads
  rw [bigSep_sum, bigSep_sum, bigSep_fin2]; rfl

/-- The only semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero: its cells' and the two for loads. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ Loads c) : sProp 𝕄) := by
  rw [ownSems0_eq, unscopedSems0_eq, bigSep_CK]
  iintro ⟨⟨HL, HS, HV⟩, HB⟩
  isplitr [HL]
  · isplitl [HB]; · iexact HB
    isplitl [HS]; · iexact HS
    iexact HV
  · iexact HL

/-- One device puts its cells under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ Loads c) := by
  unfold G
  iintro ⟨Hos, Hus, Hst, Hat, Htok⟩
  ihave Hv' := (sems0_eq (F := F) c) $$ [Hos Hus]
  · isplitl [Hos] <;> iassumption
  icases Hv' with ⟨Hv, HL⟩
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- The part of a device's holdings that is its own. -/
def linear (c : Dev nD) : sProp 𝕄 := iprop((bigSep Finset.univ fun k : CK => atPos ER (kcell (c, k)) 0 ∅ 0) ∗ toks (F := F) c ∗ Loads (F := F) c)

/-- A device's own part, with the shared records, is what its body is given. -/
theorem ghost_intro (K : Dev nD × CK → ℕ) (c : Dev nD) : iprop(records m ρ K ∗ linear (F := F) c) ⊢ G' m ρ c := by
  unfold linear toks G' Own
  rw [bigSep_CK]
  iintro ⟨#HR, ⟨HaB, HaS, HaV⟩, ⟨H1, H2, H3⟩, HL⟩
  isplitr; · iexists K; iexact HR
  isplitr [HL]
  · isplitl [HaB]; · iexact HaB
    isplitl [HaS]; · iexact HaS
    isplitl [HaV]; · iexact HaV
    isplitl [H1]; · iexact H1
    isplitl [H2]; · iexact H2
    iexact H3
  · iexact HL

/-- After every device has done so, the records are shared and each has its own part. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ Loads c) : sProp 𝕄)
      ⊢ bigSep Finset.univ (G' m ρ) := by
  rw [bigSep_sep', bigSep_sep', ← bigSep_univ_prod (fun x : Dev nD × CK => iprop(∃ κ : ℕ, cellInv ER (ringRd m ρ) κ (kcell x))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun x : Dev nD × CK => (reached ER (kcell x) 0 : sProp 𝕄))]
  iintro ⟨HI, ⟨Hat, #HR⟩, Htok⟩
  ihave HK := (BI.bigSep_exists_pi Finset.univ (fun (x : Dev nD × CK) (κ : ℕ) => (cellInv ER (ringRd m ρ) κ (kcell x) : sProp 𝕄))) $$ HI
  icases HK with ⟨%K, #HI⟩
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄))
      (fun c => iprop(toks (F := F) c ∗ Loads (F := F) c))).symm).trans (bigSep_mono fun c _ => show _ ⊢ linear c from Entails.of_eq rfl))
    isplitl [Hat]; · iexact Hat
    iexact Htok

/-- The global step at launch, the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barriers of one cell are of one device; -/
theorem bar_dev {a b : Dev nD} (h : barCell a = barCell b) : a = b := congrArg (fun g : GSem nD τ sig => g.1.1) h
/-- a receive cell tells its device and its sender; -/
theorem recv_dev {a b : Dev nD} {s s' : Fin 16} (h : recvCell a s = recvCell b s') : a = b ∧ s = s' :=
  ⟨congrArg (fun g : GSem nD τ sig => g.1.1) h, by
    have := congrArg (fun g : GSem nD τ sig => recvIdx g.2) h
    dsimp only at this
    rw [recvIdx_recv, recvIdx_recv] at this; exact Option.some.inj this⟩
/-- no barrier is a receive cell. -/
theorem bar_ne_recv (a b : Dev nD) (s : Fin 16) : barCell a ≠ recvCell b s := fun h => dma_ne_bar _ (congrArg Prod.snd h).symm

/-- Sends owe no barrier; -/
theorem owedSlots_bar (d c : Dev nD) : owedSlots d 0 (barCell c) () = 0 := by
  by_contra h
  obtain ⟨s, hs⟩ := owedSlots_pos (Nat.pos_of_ne_zero h)
  exact bar_ne_recv _ _ _ hs
/-- signals owe no receive cell. -/
theorem owedSigs_recv (d c : Dev nD) (s : Fin 16) : owedSigs d 1 (recvCell c s) () = 0 := by
  by_contra h
  obtain ⟨p, hp⟩ := owedSigs_pos (Nat.pos_of_ne_zero h)
  exact bar_ne_recv _ _ _ hp.symm

/-- Every other device owes a barrier cell one unit. -/
theorem owed_bar (d c : Dev nD) : O₀ d (barCell c) () = if c = d then 0 else 1 := by
  unfold O₀
  rw [Pi.add_apply, Finsupp.add_apply, owedSlots_bar, Nat.zero_add]
  unfold owedSigs
  rw [sigSet_one, Finset.sum_apply, Finsupp.finset_sum_apply,
    Finset.sum_congr rfl fun p _ => show (tallyAt (barCell p) () 1 : CellTallies nD τ sig Unit) (barCell c) () = if p = c then 1 else 0 by
      rw [tallyAt_apply]; by_cases h : p = c
      · subst h; rw [if_pos ⟨rfl, rfl⟩, if_pos rfl]
      · rw [if_neg fun h' => h (bar_dev h'.1).symm, if_neg h],
    Finset.sum_ite_eq']
  by_cases h : c = d
  · rw [if_pos h, if_neg fun h' => Finset.ne_of_mem_erase h' h]
  · rw [if_neg h, if_pos (Finset.mem_erase.mpr ⟨h, Finset.mem_univ _⟩)]

/-- Device `d` owes a receive cell of another device its block's credit if the cell is `d`'s. -/
theorem owed_recv (d c : Dev nD) (s : Fin 16) (h : s ≠ c) : O₀ d (recvCell c s) () = if d = s then N else 0 := by
  unfold O₀
  rw [Pi.add_apply, Finsupp.add_apply, owedSigs_recv, Nat.add_zero]
  by_cases hd : d = s
  · subst hd
    rw [if_pos rfl]
    unfold owedSlots
    rw [fromS_zero, Finset.sum_apply, Finsupp.finset_sum_apply, Finset.sum_eq_single (slotOf d c)]
    · unfold slotOwe
      rw [dst_slotOf, if_neg (Ne.symm h), tallyAt_apply, if_pos ⟨rfl, rfl⟩]
    · intro b _ hb
      unfold slotOwe
      split
      · rfl
      · rw [tallyAt_apply, if_neg]
        rintro ⟨h', -⟩
        exact hb (by rw [(recv_dev h').1, slotOf_dst])
    · exact fun hn => absurd (Finset.mem_univ _) hn
  · rw [if_neg hd]
    by_contra hn
    obtain ⟨s', hs'⟩ := owedSlots_pos (Nat.pos_of_ne_zero hn)
    exact hd (recv_dev hs').2.symm

/-- Each device has fifteen others. -/
theorem sum_others : ∀ c : Fin 16, (∑ d : Fin 16, if c = d then 0 else 1) = 15 := by decide

/-- All devices together owe a barrier fifteen units, -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  exact sum_others c

/-- and a used receive cell one block. -/
theorem launch_recv (c : Dev nD) (s : Fin 16) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h,
    Finset.sum_ite_eq' Finset.univ s fun _ => N, if_pos (Finset.mem_univ _)]

/-- So a device has the credit of each used receive cell, -/
theorem cred_recv (c : Dev nD) (s : Fin 16) :
    (cred (tallyOn (recvCell c s) (launchCredit (Pipeline.owing O₀) 0 (recvCell c s))) : sProp 𝕄)
      ⊢ if s = c then iprop(emp) else cred (tallyAt (recvCell c s) () N) := by
  split
  · iintro -; iempintro
  · rename_i h; rw [launch_recv c s h]

/-- The receive semaphores among all. -/
def recvSems : Finset (SemLoc sig) := Finset.univ.map ⟨fun s : Fin 16 => (SemLoc.dma (recvQ s) : SemLoc sig), fun s s' h => by
  have := congrArg recvIdx h; dsimp only at this; rw [recvIdx_recv, recvIdx_recv] at this; exact Option.some.inj this⟩

/-- and all its credits. -/
theorem creds (c : Dev nD) : (Pipeline.launchCred O₀ c : sProp 𝕄) ⊢ Creds (F := F) c := by
  unfold Pipeline.launchCred Creds
  rw [bigSep_univ_at _ (SemLoc.reg barS), launch_bar]
  refine sep_mono_right ?_
  refine (BI.bigSep_subset (t := recvSems) fun x hx => ?_).trans ?_
  · obtain ⟨s, -, rfl⟩ := Finset.mem_map.mp hx
    exact Finset.mem_erase.mpr ⟨dma_ne_bar _, Finset.mem_univ _⟩
  · unfold recvSems
    rw [bigSep_map]
    exact bigSep_mono fun s _ => cred_recv c s

/-! ## The side conditions -/

/-- What a device has after the launch is gathered up, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨HA, Hlev, Hcr, -, HG⟩
  ihave Hc := (creds (F := F) c) $$ Hcr
  ihave HA' := (show Pipeline.unscopedRestP Pipeline.Prefetch.none cfg0.spec c (fun b => m ((c : Thread nD τ).loc b)) ⊢ (aAll m c : sProp 𝕄) from
    Entails.of_eq (unscopedRest0_eq c (fun b => m ((c : Thread nD τ).loc b)))) $$ HA
  imodintro
  unfold start
  isplitl
  · isplitl [HG]; · iexact HG
    isplitl [Hc]; · iexact Hc
    isplitl [Hlev]; · iexact Hlev
    iexact HA'
  · iempintro

/-- given to the body with the scratch buffers, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- What a device keeps at the end: `w` unchanged, the runtime's semaphore at zero. -/
def Y (c : Dev nD) : sProp 𝕄 := iprop(unscopedSems0 c ∗ aAll m c)

/-- and returned at the end. -/
theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Done m c from rfl, scopedRest0_eq, ownSems0_eq]
  unfold Y
  rw [unscopedSems0_eq]
  unfold Done Loads
  iintro ⟨HA, Hw, Hy, Hz, Hl, Hs, Hr⟩
  isplitl [Hz HA]
  · isplitl [Hz] <;> iassumption
  isplitl [Hl Hs Hr]
  · isplitl [Hl]; · iexact Hl
    isplitl [Hs] <;> iassumption
  isplitl [Hw] <;> iassumption

/-- A device may wait for the staging copies, whatever it owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by unfold lv; rw [if_neg (dma_ne_bar _)]; fin_cases w <;> fin_cases s <;> rfl) _ (by
      rcases t with ⟨_ | _, ht⟩
      · intro g u hg
        rcases O₀_pos hg with ⟨s, h⟩ | h
        · exact .inl ⟨_, _, h⟩
        · exact .inr h
      · intro g u hg; exact absurd hg (Nat.lt_irrefl 0))

/-! ## The run -/

/-- A window's array at the end. -/
def finalA (c : Dev nD) (w : Fin cfg0.W) : Buf (Elt F) ((cfg0.win w).arr.view.loc (c : Thread nD τ)) := (dats m ρ 0 c).arrAt w cfg0.N

/-- What a final state satisfies: the windows' arrays at their final contents, `w` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- At the end `w` can be read off the memory: it has not changed. -/
theorem read_w (c : Dev nD) (s' : Phys nD τ sig (Elt F)) :
    iprop((aAll m c : sProp 𝕄) ∗ SI s') ⊢ iprop(⌜s'.mem.mem ((c : Thread nD τ).loc main_arg1) = m ((c : Thread nD τ).loc main_arg1)⌝ ∗ SI s') := by
  iintro ⟨H, HSI⟩
  icombine HSI H gives %h
  isplitr
  · ipureintro; exact Buf.eq_of_forall_mem_univ h
  · iexact HSI

set_option maxRecDepth 8000 in
/-- For any float values, from any memory with zero counters: every weakly fair run of the sixteen devices terminates, and
    every final state has each device's windows at their computed contents, `w` unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund_ring m ρ) $$ HX with HG
      imodintro
      isplitl [HP] <;> iassumption)
    (hglob := glob m ρ)
    (hA := fun _ _ => rfl) (hpf := fun _ k => k.elim0)
    (X := start m ρ) (Y := Y m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold Y
      iintro ⟨⟨Hu, HA⟩, -, HSI⟩
      ihave H := (read_w m c s') $$ [HA HSI]
      · isplitl [HA] <;> iassumption
      icases H with ⟨%h2, HSI⟩
      imod (Pipeline.unscopedSems0_read (X := unscopedSems0 c) (c := c) fupd_intro s') $$ [Hu HSI] with ⟨%h1, HSI⟩
      · isplitl [Hu] <;> iassumption
      imodintro
      isplitr; · ipureintro; exact ⟨h1, h2⟩
      iexact HSI)
    (hQ := fun _ h hs => ⟨fun c => ⟨fun w => (h c).1 w, (h c).2.2.2⟩, sem_eq_zero hs fun c => (h c).2.2.1⟩)

/-- `x` ends as it was; -/
theorem finalA_x (c : Dev nD) : finalA m ρ c (0 : Fin 2) = m (win0_0.arr.view.loc (c : Thread nD τ)) :=
  (dats (F := F) m ρ 0 c).arrAt_in (0 : Fin 2) rfl _

end Cert.KProof

end
-- ==== Proof.Value.lean ====
/-
# The kernel's result at exact values

With exact arithmetic the block device `p` makes for device `c` is, entry by entry, the gelu of the sum over the 2048 columns
of `x` of products of an entry of `p`'s rows of `x` with an entry of the 128 columns of `w` that belong to `c`.
-/
module

public import proofs.«01_k».proof.Proof.Launch
public import Idealize.ShloMosaic.Lib.MatmulPlain
public import Idealize.ShloMosaic.Lib.Pipeline.Value
public import Idealize.ShloMosaic.PureOps.Ideal.Laws

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Any

variable {F : FTy → Type} [FloatOps F]

local notation "𝕄" => MT nD τ sig Unit (Elt F) ℕ UU ℕ

open Idealize.ShloMosaic.ValueIdx
open scoped BigOperators

variable (m : (ℓ : Loc nD τ sig) → Buf (Elt F) ℓ) (ρ : Dev nD → PrngReg)
variable (K : Dev nD × CK → ℕ)

/-! ## From arrays to arrays, at any values -/

/-- The result array at the end is `outFull`. -/
theorem finalA_o (c : Dev nD) : finalA m ρ c (1 : Fin 2) = outFull m ρ c := by
  have h : (win0_1.blk (0 : Fin 1)).view.read (Elt F) (finalA m ρ c (1 : Fin 2)) = outFull m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  rw [Memref.read_access_unit_zero (Elt F) main_v1 hz (fun a => by fin_cases a <;> decide)] at h
  exact h

/-- The staged block of `x` is the device's argument. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

set_option backward.proofsInPublic true in
/-- Column `l` of column chunk `j`, as a column of `w`. -/
def colOf (j : Fin 8) (l : Fin 256) : Fin 2048 := ⟨256 * j.val + l.val, by omega⟩

/-- A chunk of `w`, its unit axis dropped, read at an index. -/
theorem wChunk_apply (c : Dev nD) (j : Fin 8) (h : S1x2048x256.ShapeCasts S2048x256) (k : Fin 2048) (l : Fin 256) :
    shapeCast S2048x256 (wChunk m c j) h (ix2 k l) = wAll m c (ix2 k (colOf j l)) := by
  unfold wChunk
  rw [shapeCast_shapeCast]
  refine congrArg (wAll m c) (Shape.idx_ext₂ ?_ ?_)
  · show 0 + 1 * k.val = k.val
    omega
  · show 256 * j.val + 1 * l.val = 256 * j.val + l.val
    omega

/-- The two halves of a chunk of results, by the parity of the slot. -/
theorem yv_apply (c : Dev nD) (s : Fin 16) (h : S1x128x128.ShapeCasts S128x128) (r l : Fin 128) :
    shapeCast S128x128 (yv m ρ c s) h (ix2 r l)
      = yChunk m ρ c (ck c (s.val / 2)) (ix2 r (⟨128 * (s.val % 2) + l.val, by omega⟩ : Fin 256)) := by
  unfold yv
  split
  · rename_i hs
    unfold k0_pay19
    rw [shapeCast_shapeCast]
    exact extractStridedSlice_apply _ _ _ _ _ fun a => by fin_cases a <;> simp [hs]
  · rename_i hs
    have hs : s.val % 2 = 1 := by omega
    unfold k0_pay21
    rw [shapeCast_shapeCast]
    exact extractStridedSlice_apply _ _ _ _ _ fun a => by fin_cases a <;> simp [hs]

/-- The column of `w` behind column `l` of the block for device `c`. -/
theorem colOf_slot : ∀ (p c : Dev nD) (l : Fin 128) , 256 * (ck p ((slotOf p c).val / 2)).val + (128 * ((slotOf p c).val % 2) + l.val) = c.val * 128 + l.val := by
  intro p c l
  have h := congrArg Fin.val (dst_slotOf p c)
  have hc : c.val < 16 := c.isLt
  unfold dst at h
  dsimp only [ck] at h ⊢
  omega

/-! ## At exact values -/

end Any

section Exact

open Idealize.ShloMosaic.ValueIdx
open scoped BigOperators

/-- The gelu as the kernel multiplies it out. -/
def gelK (s : EReal) : EReal :=
  (Ideal.ofBits .f32 0x3F000000#32 * s) * (Ideal.ofBits .f32 0x3F800000#32
    + Ideal.tanh (Ideal.ofBits .f32 0x3F4C422A#32 * (s + ((Ideal.ofBits .f32 0x3D372713#32 * s) * s) * s)))

/-- The gelu as the reference writes it, with a cube. -/
def gelR (s : EReal) : EReal :=
  (Ideal.ofBits .f32 0x3F000000#32 * s) * (Ideal.ofBits .f32 0x3F800000#32
    + Ideal.tanh (Ideal.ofBits .f32 0x3F4C422A#32 * (s + Ideal.ofBits .f32 0x3D372713#32 * ((s * s) * s))))

/-- The two agree at every extended real. -/
theorem gelK_eq (s : EReal) : gelK s = gelR s := by unfold gelK gelR; simp only [mul_assoc]

/-- Row `r` of `x` times column `n` of `w`. -/
def rowDot {M N : ℕ} (x : (⟨2, ![M, 2048]⟩ : Shape).Idx → EReal) (w : (⟨2, ![2048, N]⟩ : Shape).Idx → EReal) (r : Fin M) (n : Fin N) : EReal :=
  ∑ k : Fin 2048, x (ix2 r k) * w (ix2 k n)

variable (m : (ℓ : Loc nD τ sig) → Buf (Elt Ideal) ℓ) (ρ : Dev nD → PrngReg)

/-- An entry of a chunk of results. -/
theorem yChunk_apply (c : Dev nD) (j : Fin 8) (r : Fin 128) (l : Fin 256) :
    yChunk m ρ c j (ix2 r l) = gelK (rowDot (M := 128) (N := 2048) (m ((c : Thread nD τ).loc main_arg0)) (wAll m c) r (colOf j l)) := by
  have hM : FloatOps.matmul (F := Ideal) (DotDims.plain 128 2048 256) none (k0_pay1 (xstg m ρ c))
        (truncf .bf16 (shapeCast S2048x256 (wChunk m c j) shapeCasts_S1x2048x256_S2048x256) bitsLt_bf16_f32) (constant S128x256 .f32 0x00000000#32) (ix2 r l)
      = rowDot (M := 128) (N := 2048) (m ((c : Thread nD τ).loc main_arg0)) (wAll m c) r (colOf j l) := by
    rw [Ideal.matmul_plain_apply]
    show Ideal.ofBits .f32 0x00000000#32 + _ = _
    rw [Ideal.ofBits_zero_f32, zero_add]
    unfold rowDot
    refine Finset.sum_congr rfl fun k _ => ?_
    rw [← wChunk_apply m c j shapeCasts_S1x2048x256_S2048x256 k l, ← xstg_eq m ρ c]
    unfold k0_pay1
    rw [shapeCast_self]
    rfl
  rw [← hM]
  rfl

/-- An entry of the block device `p` makes for device `c`. -/
theorem oBlk_apply (p c : Dev nD) (r l : Fin 128) (n : Fin 2048) (hn : n.val = c.val * 128 + l.val) :
    oBlk m ρ p c (ix2 r l) = gelR (rowDot (M := 128) (N := 2048) (m ((p : Thread nD τ).loc main_arg0)) (wAll m p) r n) := by
  unfold oBlk
  rw [yv_apply, yChunk_apply, gelK_eq]
  rw [show colOf (ck p ((slotOf p c).val / 2)) ⟨128 * ((slotOf p c).val % 2) + l.val, by omega⟩ = n from Fin.ext (by rw [hn]; exact colOf_slot p c l)]

end Exact

end Cert.KProof

end
-- ==== Proof.Ref.lean ====
/-
# The reference

The run of the reference on its one device, and its result at exact values: entry by entry the gelu of a row of `x` times a
column of `w`. Block `c` of the columns of that result is what the kernel leaves on device `c`.
-/
module

public import proofs.«01_k».proof.Proof.Value
public import proofs.«01_k».proof.Proof.Gen.ReferenceIdeal
public import Idealize.ShloMosaic.Lib.StableHlo.Run
public import Idealize.ShloMosaic.Lib.StackMember
public import Idealize.ShloMosaic.Lib.Layout

@[expose] public section

noncomputable section

namespace Cert.RProof

open Cert.ReferenceIdeal Cert.ReferenceIdeal.Gen
open Idealize.ShloMosaic Idealize.ShloMosaic.TcCoe Idealize.ShloMosaic.StableHlo Idealize.SL.Sem
open Idealize.ShloMosaic.ValueIdx
open Cert.KProof (gelR rowDot)

variable {F : FTy → Type} [FloatOps F]

/-- A constant everywhere. -/
abbrev splat (b : BitVec 32) : FVec F S2048x2048 .f32 := broadcastInDim S2048x2048 ![] bcast_S_S2048x2048 (constant S_ .f32 b)

/-- The product of the two arguments. -/
abbrev prod (x w : FVec F S2048x2048 .f32) : FVec F S2048x2048 .f32 := Host.dotGeneral dot_S2048x2048_S2048x2048_S2048x2048_1_0_0_1_n_n none x w

/-- The reference's gelu of an array. -/
abbrev gel (y : FVec F S2048x2048 .f32) : FVec F S2048x2048 .bf16 :=
  truncf .bf16 (mulf (mulf (splat 0x3F000000#32) y)
    (addf (splat 0x3F800000#32) (Host.tanh (mulf (splat 0x3F4C422A#32) (addf y (mulf (splat 0x3D372713#32) (mulf (mulf y y) y))))))) bitsLt_bf16_f32

/-- The reference's result from its two arguments. -/
abbrev refOut (x w : FVec F S2048x2048 .f32) : FVec F S2048x2048 .bf16 := gel (prod x w)

/-- The operations, in order. -/
abbrev ops : List (HloOp τ sig (Elt F)) :=
  [ binary main_arg0 main_arg1 main_v0 (fun l r => Host.dotGeneral dot_S2048x2048_S2048x2048_S2048x2048_1_0_0_1_n_n none l r),
    nullary main_cst (constant S_ .f32 0x3F000000#32),
    unary main_cst main_v1 (broadcastInDim S2048x2048 ![] bcast_S_S2048x2048),
    binary main_v1 main_v0 main_v2 mulf,
    binary main_v0 main_v0 main_v3 mulf,
    binary main_v3 main_v0 main_v4 mulf,
    nullary main_cst_0 (constant S_ .f32 0x3D372713#32),
    unary main_cst_0 main_v5 (broadcastInDim S2048x2048 ![] bcast_S_S2048x2048),
    binary main_v5 main_v4 main_v6 mulf,
    binary main_v0 main_v6 main_v7 addf,
    nullary main_cst_1 (constant S_ .f32 0x3F4C422A#32),
    unary main_cst_1 main_v8 (broadcastInDim S2048x2048 ![] bcast_S_S2048x2048),
    binary main_v8 main_v7 main_v9 mulf,
    unary main_v9 main_v10 Host.tanh,
    nullary main_cst_2 (constant S_ .f32 0x3F800000#32),
    unary main_cst_2 main_v11 (broadcastInDim S2048x2048 ![] bcast_S_S2048x2048),
    binary main_v11 main_v10 main_v12 addf,
    binary main_v2 main_v12 main_v13 mulf,
    unary main_v13 main_v14 (truncf .bf16 · bitsLt_bf16_f32) ]

/-- The reference is that straight line. -/
theorem main_eq (c : Dev nD) : main (F := F) c = seq ops := rfl

/-- What the operations leave in the result's buffer; -/
theorem out_eq (V : Valuation τ sig (Elt F)) :
    after ops V (main_v14 : DevRef τ sig) = refOut (V (main_arg0 : DevRef τ sig)) (V (main_arg1 : DevRef τ sig)) := by
  after_results
/-- they leave the first argument as it was, -/
theorem arg0_eq (V : Valuation τ sig (Elt F)) : after ops V (main_arg0 : DevRef τ sig) = V (main_arg0 : DevRef τ sig) := by
  after_results
/-- and the second. -/
theorem arg1_eq (V : Valuation τ sig (Elt F)) : after ops V (main_arg1 : DevRef τ sig) = V (main_arg1 : DevRef τ sig) := by
  after_results

/-- The reference has no scoped buffers -/
theorem scopedRefs_eq : (Finset.univ.filter fun b : Ref sig .tc => b.isScoped) = ∅ := by decide
/-- and no scoped semaphores. -/
theorem scopedSems_eq : (Finset.univ.filter fun sm : SemLoc sig => sm.isScoped .tc) = ∅ := by decide

/-- Every operation touches the device's own buffers only. -/
theorem ops_sub : (ops : List (HloOp τ sig (Elt F))).Forall fun op => op.bufs ⊆ tcRefs τ sig := by
  simp only [ops, List.forall_cons, List.Forall]
  exact ⟨binary_bufs_sub .., nullary_bufs_sub .., unary_bufs_sub .., binary_bufs_sub .., binary_bufs_sub .., binary_bufs_sub ..,
    nullary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., binary_bufs_sub .., unary_bufs_sub ..⟩

/-- Every run of the reference terminates with its result at `refOut` of its arguments and both arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v14) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v14).trans (out_eq _), (h c main_arg0).trans (arg0_eq _), (h c main_arg1).trans (arg1_eq _)⟩)
    (run_seq scopedRefs_eq scopedSems_eq defs main (fun _ => ops) main_eq (fun _ => ops_sub) m ρ)

/-- At exact values an entry of the result is the gelu of a row of `x` times a column of `w`. -/
theorem refOut_apply (x w : FVec Ideal S2048x2048 .f32) (r n : Fin 2048) :
    refOut (F := Ideal) x w (ix2 r n) = gelR (rowDot (M := 2048) (N := 2048) x w r n) := by
  have h : prod (F := Ideal) x w (ix2 r n) = rowDot (M := 2048) (N := 2048) x w r n := StackMember.dotGeneral_plain_apply none x w r n
  rw [← h]
  rfl

/-- If every device of the kernel holds its block of rows of `x` and all of `w`, the result of device `c` at exact values is
    block `c` of the columns of the reference's result. -/
theorem outFull_block (m : (ℓ : Loc Cert.KernelIdeal.nD Cert.KernelIdeal.τ Cert.KernelIdeal.sig) → Buf (Elt Ideal) ℓ)
    (ρ : Dev Cert.KernelIdeal.nD → PrngReg) (x w : FVec Ideal S2048x2048 .f32)
    (hx : ∀ c : Dev Cert.KernelIdeal.nD, m ((c.tc : Thread Cert.KernelIdeal.nD Cert.KernelIdeal.τ).loc Cert.KernelIdeal.main_arg0)
      = Layout.block ⟨2, ![128, 2048]⟩ ⟨2, ![2048, 2048]⟩ 0 16 c x)
    (hw : ∀ c : Dev Cert.KernelIdeal.nD, m ((c.tc : Thread Cert.KernelIdeal.nD Cert.KernelIdeal.τ).loc Cert.KernelIdeal.main_arg1) = w)
    (c : Dev Cert.KernelIdeal.nD) :
    Cert.KProof.outFull m ρ c = Layout.block ⟨2, ![2048, 128]⟩ ⟨2, ![2048, 2048]⟩ 1 16 c (refOut x w) := by
  suffices key : ∀ (r : Fin 2048) (l : Fin 128), Cert.KProof.outFull m ρ c (ix2 r l)
      = Layout.block ⟨2, ![2048, 128]⟩ ⟨2, ![2048, 2048]⟩ 1 16 c (refOut x w) (by decide) (ix2 r l) by
    funext i
    have hi := eq_ix2 (n0 := 2048) (n1 := 128) i
    rw [hi]
    exact key _ _
  intro r l
  have hc : c.val < 16 := c.isLt
  have e (h : Layout.Tiles ⟨2, ![2048, 128]⟩ ⟨2, ![2048, 2048]⟩ 1 16) : h.idx c (ix2 r l) = ix2 r (⟨c.val * 128 + l.val, by omega⟩ : Fin 2048) :=
    Shape.idx_ext₂ rfl rfl
  rw [Layout.block_apply (S := ⟨2, ![2048, 128]⟩) (T := ⟨2, ![2048, 2048]⟩), e, refOut_apply]
  refine (Cert.KProof.oBlk_apply m ρ ⟨r.val / 128, by show _ < 16; omega⟩ c ⟨r.val % 128, Nat.mod_lt _ (by decide)⟩ l ⟨c.val * 128 + l.val, by omega⟩ rfl).trans ?_
  refine congrArg gelR (Finset.sum_congr rfl fun k _ => ?_)
  unfold Cert.KProof.wAll
  rw [hx, hw]
  refine congrArg (fun y : EReal => y * w (ix2 k _)) (congrArg x (Shape.idx_ext₂ ?_ rfl))
  show r.val / 128 * 128 + r.val % 128 = r.val
  omega

end Cert.RProof

end
-- ==== Proof.lean ====
/-
# The claims

The frames of the kernel (at machine words and at exact values) and of the reference, and their algebraic equality: the result
of device `c` is block `c` of the columns of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- Any run of the kernel, at any values, leaves both arguments as they were and every semaphore at zero. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨((h.1 c).1 (0 : Fin 2)).trans (Cert.KProof.finalA_x m ρ c), (h.1 c).2⟩, h.2⟩)
    (Cert.KProof.run_main m ρ)

/-- The two printed kernels have the same bodies; -/
theorem bodies_eq : Cert.Kernel.defs₀ (F := Bits) = Cert.KernelIdeal.defs₀ (F := Bits) := by
  unfold Cert.Kernel.defs₀ Cert.KernelIdeal.defs₀
  refine congrArg (Defs.onTc (nD := 16) (τ := Cert.Kernel.τ) (sig := Cert.Kernel.sig) (Val := Elt Bits) (Λ := Cert.Kernel.Λ₀)) ?_
  funext l a
  match l with
  | ⟨0, _⟩ => rfl
  | ⟨n + 1, h⟩ => exact absurd h (by omega)

/-- so the same pipelines around them. -/
theorem defs_eq : Cert.Kernel.defs (F := Bits) = Cert.KernelIdeal.defs (F := Bits) :=
  congrArg (Pipeline.defs (Cert.Kernel.pcfgs (F := Bits))) bodies_eq

/-- The kernel's frame, at machine words. -/
theorem frame_kernel : Cert.quiescent_Kernel := by
  intro m ρ _
  rw [defs_eq]
  exact run_args (F := Bits) m ρ

/-- The kernel's frame, at exact values. -/
theorem frame_kernelIdeal : Cert.quiescent_KernelIdeal := fun m ρ _ => run_args (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.RProof.run_main (F := Ideal) m ρ)

/-- The kernel's results are the blocks of the reference's result. -/
theorem algebraic : Cert.algebraic_KernelIdeal_ReferenceIdeal := by
  intro m ρ m' ρ' _ hagree
  refine ⟨Cert.RProof.refOut (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(((h.1 c).1 (1 : Fin 2)).trans (Cert.KProof.finalA_o m ρ c)).trans
          (Cert.RProof.outFull_block m ρ _ _ (fun p => (hagree p).1) (fun p => (hagree p).2) c),
        ((h.1 c).1 (0 : Fin 2)).trans (Cert.KProof.finalA_x m ρ c), (h.1 c).2⟩)
      (Cert.KProof.run_main (F := Ideal) m ρ)
  · exact (θ_run Cert.ReferenceIdeal.defs _ _).mono (fun _ h => h 0) (Cert.RProof.run_main (F := Ideal) m' ρ')

/-- Everything this certificate claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
